-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_score_inputs_finite_KernelIdeal [hPre_score_inputs_finite_KernelIdeal : Cert.Pre_score_inputs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_score_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_score_inputs_finite_ReferenceIdeal [hPre_score_inputs_finite_ReferenceIdeal : Cert.Pre_score_inputs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_score_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_score_inputs_finite_KernelIdeal [hKernelIdeal : Cert.KernelIdeal.Facts] [hPre_score_inputs_finite_KernelIdeal : Cert.Pre_score_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_score_inputs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_score_inputs_finite_ReferenceIdeal [hReferenceIdeal : Cert.ReferenceIdeal.Facts] [hPre_score_inputs_finite_ReferenceIdeal : Cert.Pre_score_inputs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_score_inputs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_score_inputs_finite_KernelIdeal [hKernelIdeal : Cert.KernelIdeal.Facts] [hReferenceIdeal : Cert.ReferenceIdeal.Facts] [hPre_score_inputs_finite_KernelIdeal : Cert.Pre_score_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_score_inputs_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 128]⟩ 1 2 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![128, 1024]⟩ 0 2 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![128, 1024]⟩ 0 2 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_score_inputs_finite_KernelIdeal : Cert.Pre_score_inputs_finite_KernelIdeal.Facts) (hPre_score_inputs_finite_ReferenceIdeal : Cert.Pre_score_inputs_finite_ReferenceIdeal.Facts),
    quiescent_Kernel (hKernel := hKernel)
    ∧ quiescent_KernelIdeal (hKernelIdeal := hKernelIdeal)
    ∧ quiescent_KernelIdeal_pre_score_inputs_finite_KernelIdeal (hKernelIdeal := hKernelIdeal) (hPre_score_inputs_finite_KernelIdeal := hPre_score_inputs_finite_KernelIdeal)
    ∧ quiescent_ReferenceIdeal (hReferenceIdeal := hReferenceIdeal)
    ∧ quiescent_ReferenceIdeal_pre_score_inputs_finite_ReferenceIdeal (hReferenceIdeal := hReferenceIdeal) (hPre_score_inputs_finite_ReferenceIdeal := hPre_score_inputs_finite_ReferenceIdeal)
    ∧ preserves_Kernel_KernelIdeal
    ∧ algebraic_KernelIdeal_ReferenceIdeal_pre_score_inputs_finite_KernelIdeal (hKernelIdeal := hKernelIdeal) (hReferenceIdeal := hReferenceIdeal) (hPre_score_inputs_finite_KernelIdeal := hPre_score_inputs_finite_KernelIdeal)
-- ==== Pre_score_inputs_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S2x256x1024 1 × IVec S1024x64 1 × IVec S64x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  let main_v6 : FVec F S64x1024 .f32 := Host.absf main_arg2
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Pre_score_inputs_finite_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x128 : S_.BroadcastsInDim S1024x128 (![] : Fin 0 → Fin S1024x128.rank)
  bcast_S_S128x1024 : S_.BroadcastsInDim S128x1024 (![] : Fin 0 → Fin S128x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S2x256x1024 1 × IVec S1024x128 1 × IVec S128x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x128 .f32 := Host.absf main_arg1
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  let main_v6 : FVec F S128x1024 .f32 := Host.absf main_arg2
  let main_cst_1 : FVec F S_ .f32 := constant S_ .f32 0x7F800000#32
  let main_v7 : FVec F S128x1024 .f32 := broadcastInDim S128x1024 ![] bcast_S_S128x1024 main_cst_1
  let main_v8 : IVec S128x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S2x256x64 : Shape := ⟨3, ![2, 256, 64]⟩
abbrev S2x256x512 : Shape := ⟨3, ![2, 256, 512]⟩
abbrev S2x256x32 : Shape := ⟨3, ![2, 256, 32]⟩
abbrev S3 : Shape := ⟨1, ![3]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256x64 : Shape := ⟨2, ![256, 64]⟩
abbrev S1x256x64 : Shape := ⟨3, ![1, 256, 64]⟩
abbrev S256x512 : Shape := ⟨2, ![256, 512]⟩
abbrev S1x256x512 : Shape := ⟨3, ![1, 256, 512]⟩
abbrev S256x32 : Shape := ⟨2, ![256, 32]⟩
abbrev S1x256x32 : Shape := ⟨3, ![1, 256, 32]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 20
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S2x256x1024, .bf16⟩
  | .local _ .vmem, ⟨10, _⟩ => ⟨S2x256x64, .bf16⟩
  | .local _ .vmem, ⟨11, _⟩ => ⟨S2x256x64, .bf16⟩
  | .local _ .vmem, ⟨12, _⟩ => ⟨S64x1024, .f32⟩
  | .local _ .vmem, ⟨13, _⟩ => ⟨S64x1024, .f32⟩
  | .local _ .vmem, ⟨14, _⟩ => ⟨S2x256x1024, .bf16⟩
  | .local _ .vmem, ⟨15, _⟩ => ⟨S2x256x512, .bf16⟩
  | .local _ .vmem, ⟨16, _⟩ => ⟨S2x256x32, .bf16⟩
  | .local _ .vmem, ⟨17, _⟩ => ⟨S2x256x1024, .bf16⟩
  | .local _ .vmem, ⟨18, _⟩ => ⟨S2x256x1024, .bf16⟩
  | .local _ .vmem, ⟨19, _⟩ => ⟨S2x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_2 : BitVec 32 := 1#32
  let v5 : BitVec 32 := Scalar.muli v3 c1_i32_2
  let v6 : BitVec 32 := Scalar.addi c0_i32 v5
  v6.toNat
def k0_dev2 (d0 : Dev nD) : Nat :=
  let c0_i32_7 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_6 : BitVec 32 := 1#32
  let v7 : BitVec 32 := Scalar.muli v3 c1_i32_6
  let v8 : BitVec 32 := Scalar.addi c0_i32_7 v7
  v8.toNat
def k0_dev3 (d0 : Dev nD) : Nat :=
  let c0_i32_11 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_10 : BitVec 32 := 1#32
  let v13 : BitVec 32 := Scalar.muli v3 c1_i32_10
  let v14 : BitVec 32 := Scalar.addi c0_i32_11 v13
  v14.toNat
def k0_dev4 (d0 : Dev nD) : Nat :=
  let c0_i32_42 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_41 : BitVec 32 := 1#32
  let v51 : BitVec 32 := Scalar.muli v3 c1_i32_41
  let v52 : BitVec 32 := Scalar.addi c0_i32_42 v51
  v52.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.KernelIdeal.Prog.lean ====
/- The kernel's body as a structured program: the handshake and the three remote copies, the projections, and per
   batch a loop over the sixteen heads, each head one and the same short program at its own column offsets. The printed
   body is this program by definitional unfolding (`body_eq`). -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Mla

open Cert.KernelIdeal Cert.KernelIdeal.Gen
open Idealize.ShloMosaic Idealize.ShloMosaic.TcCoe Idealize.SL.Sem

variable {F : FTy → Type} [FloatOps F]

/-! ## The buffers and semaphores -/

abbrev xM : Memref sig .tc .vmem S2x256x1024 .f32 := Memref.whole cc0_stg0_0
abbrev wdkvM : Memref sig .tc .vmem S1024x64 .f32 := Memref.whole cc0_stg1_0
abbrev wukM : Memref sig .tc .vmem S64x1024 .f32 := Memref.whole cc0_stg2_0
abbrev wuvM : Memref sig .tc .vmem S64x1024 .f32 := Memref.whole cc0_stg3_0
abbrev wqM : Memref sig .tc .vmem S1024x1024 .f32 := Memref.whole cc0_stg4_0
abbrev wqrM : Memref sig .tc .vmem S1024x512 .f32 := Memref.whole cc0_stg5_0
abbrev wkrM : Memref sig .tc .vmem S1024x32 .f32 := Memref.whole cc0_stg6_0
abbrev woM : Memref sig .tc .vmem S1024x1024 .f32 := Memref.whole cc0_stg7_0
abbrev outM : Memref sig .tc .vmem S2x256x1024 .f32 := Memref.whole cc0_stg8_0
abbrev x16M : Memref sig .tc .vmem S2x256x1024 .bf16 := Memref.whole cc0_scratch0
abbrev csM : Memref sig .tc .vmem S2x256x64 .bf16 := Memref.whole cc0_scratch1
abbrev crM : Memref sig .tc .vmem S2x256x64 .bf16 := Memref.whole cc0_scratch2
abbrev wukrM : Memref sig .tc .vmem S64x1024 .f32 := Memref.whole cc0_scratch3
abbrev wuvrM : Memref sig .tc .vmem S64x1024 .f32 := Memref.whole cc0_scratch4
abbrev qM : Memref sig .tc .vmem S2x256x1024 .bf16 := Memref.whole cc0_scratch5
abbrev qrM : Memref sig .tc .vmem S2x256x512 .bf16 := Memref.whole cc0_scratch6
abbrev krM : Memref sig .tc .vmem S2x256x32 .bf16 := Memref.whole cc0_scratch7
abbrev kM : Memref sig .tc .vmem S2x256x1024 .bf16 := Memref.whole cc0_scratch8
abbrev vM : Memref sig .tc .vmem S2x256x1024 .bf16 := Memref.whole cc0_scratch9
abbrev oM : Memref sig .tc .vmem S2x256x1024 .bf16 := Memref.whole cc0_scratch10

abbrev barS : Sem sig := (SemArray.scalar (sig.barrier 0 rfl) : Sems sig S_).sem
/-- The send semaphore of each of the three copies, and its receive semaphore. -/
abbrev sendS : Fin 3 → DmaSem sig
  | 0 => ((cc0_scratch11.slice (Rect.unit (s := S3) ![0] S1.size inb_S3_S1_0) : DmaSems sig S1).squeeze S_ squeezes_S1_S_ : DmaSems sig S_).sem
  | 1 => ((cc0_scratch11.slice (Rect.unit (s := S3) ![1] S1.size inb_S3_S1_1) : DmaSems sig S1).squeeze S_ squeezes_S1_S_ : DmaSems sig S_).sem
  | 2 => ((cc0_scratch11.slice (Rect.unit (s := S3) ![2] S1.size inb_S3_S1_2) : DmaSems sig S1).squeeze S_ squeezes_S1_S_ : DmaSems sig S_).sem
abbrev recvS : Fin 3 → DmaSem sig
  | 0 => ((cc0_scratch12.slice (Rect.unit (s := S3) ![0] S1.size inb_S3_S1_0) : DmaSems sig S1).squeeze S_ squeezes_S1_S_ : DmaSems sig S_).sem
  | 1 => ((cc0_scratch12.slice (Rect.unit (s := S3) ![1] S1.size inb_S3_S1_1) : DmaSems sig S1).squeeze S_ squeezes_S1_S_ : DmaSems sig S_).sem
  | 2 => ((cc0_scratch12.slice (Rect.unit (s := S3) ![2] S1.size inb_S3_S1_2) : DmaSems sig S1).squeeze S_ squeezes_S1_S_ : DmaSems sig S_).sem

/-! ## Accesses: `w` columns from column `o` of batch `b`, and a whole matrix -/

abbrev P (F : FTy → Type) : Type → Type 1 := Prog (TpuEff nD τ sig (Elt F) Λ₀ .tc)
abbrev Full (N : ℕ) : Shape := ⟨3, ![2, 256, N]⟩
abbrev Row (w : ℕ) : Shape := ⟨3, ![1, 256, w]⟩
abbrev Mat (R N : ℕ) : Shape := ⟨2, ![R, N]⟩

theorem slab_inb {N b o w : ℕ} (hb : b < 2) (h : o + w ≤ N) : ∀ a, (![b, 0, o] : Fin 3 → ℕ) a + (Row w).size a ≤ (Full N).size a := by
  intro a; fin_cases a
  · show b + 1 ≤ 2; omega
  · show 0 + 256 ≤ 256; omega
  · exact h
abbrev slab (N b o w : ℕ) (hb : b < 2) (h : o + w ≤ N) : Rect (Full N) := Rect.unit (s := Full N) ![b, 0, o] (Row w).size (slab_inb hb h)

theorem slab_packed {N b o w : ℕ} (hb : b < 2) (h : o + w ≤ N) : (slab N b o w hb h).PackedRows (EltTy.packing .bf16) :=
  .inr ⟨(by decide : 2 ≤ 3), rfl, .inl ⟨Nat.dvd_zero _, ⟨128, rfl⟩⟩⟩

def getSlab {N : ℕ} {e : EltTy} (M : Memref sig .tc .vmem (Full N) e) (b o w : ℕ) (hb : b < 2) (h : o + w ≤ N) (hw : 0 < (Row w).numel) :
    P F (Vec F (Row w) e) :=
  Prog.lift (.load M (slab N b o w hb h).toLoadRect (View.loadsAt_vmem hw))

/-- The store, after the load that the compiler leaves in front of it. -/
def putSlab {N : ℕ} {e : EltTy} (M : Memref sig .tc .vmem (Full N) e) (b o w : ℕ) (hb : b < 2) (h : o + w ≤ N) (hw : 0 < (Row w).numel)
    (hx : (M.access (slab N b o w hb h)).Stores Finset.univ) (v : Vec F (Row w) e) : P F PUnit := do
  let _ ← getSlab M b o w hb h hw
  Prog.lift (.store M (slab N b o w hb h) v Finset.univ hx (.inl rfl))

theorem stores16 {N : ℕ} {M : Memref sig .tc .vmem (Full N) .bf16} (hM : M.IsWhole) {b o w : ℕ} (hb : b < 2) (h : o + w ≤ N) (hw : 0 < (Row w).numel) :
    (M.access (slab N b o w hb h)).Stores Finset.univ :=
  View.stores_vmem hw (hM.storeExact_slice rfl _ (slab_packed hb h)) (fun _ => rfl)

theorem mat_inb (R N : ℕ) : ∀ a, (![0, 0] : Fin 2 → ℕ) a + (Mat R N).size a ≤ (Mat R N).size a := by
  intro a; fin_cases a
  · show 0 + R ≤ R; omega
  · show 0 + N ≤ N; omega
abbrev matR (R N : ℕ) : Rect (Mat R N) := Rect.unit (s := Mat R N) ![0, 0] (Mat R N).size (mat_inb R N)

def getMat {R N : ℕ} {e : EltTy} (M : Memref sig .tc .vmem (Mat R N) e) (h : 0 < (Mat R N).numel) : P F (Vec F (Mat R N) e) :=
  Prog.lift (.load M (matR R N).toLoadRect (View.loadsAt_vmem h))

/-! ## The stages -/

/-- Batch `b` of `x` rounded. -/
def castX (b : ℕ) (hb : b < 2) : P F PUnit := do
  let x ← getSlab xM b 0 1024 hb (by decide) h_S1x256x1024
  putSlab x16M b 0 1024 hb (by decide) h_S1x256x1024 (stores16 (Memref.isWhole_whole _) hb (by decide) h_S1x256x1024) (k0_pay3 x)

/-- Batch `b`'s latent. -/
def latent (b : ℕ) (hb : b < 2) : P F PUnit := do
  let x ← getSlab x16M b 0 1024 hb (by decide) h_S1x256x1024
  let w ← getMat wdkvM h_S1024x64
  putSlab csM b 0 64 hb (by decide) h_S1x256x64 (stores16 (Memref.isWhole_whole _) hb (by decide) h_S1x256x64) (k0_pay6 x w)

/-- Batch `b`'s queries (scaled) and rotary key. -/
def queries (b : ℕ) (hb : b < 2) (wq : Vec F S1024x1024 .f32) (wqr : Vec F S1024x512 .f32) (wkr : Vec F S1024x32 .f32) : P F PUnit := do
  let x ← getSlab x16M b 0 1024 hb (by decide) h_S1x256x1024
  putSlab qM b 0 1024 hb (by decide) h_S1x256x1024 (stores16 (Memref.isWhole_whole _) hb (by decide) h_S1x256x1024) (k0_pay12 wq x)
  putSlab qrM b 0 512 hb (by decide) h_S1x256x512 (stores16 (Memref.isWhole_whole _) hb (by decide) h_S1x256x512) (k0_pay13 wqr x)
  putSlab krM b 0 32 hb (by decide) h_S1x256x32 (stores16 (Memref.isWhole_whole _) hb (by decide) h_S1x256x32) (k0_pay14 wkr x)

/-- Batch `b`'s keys or values: its latent against the own half of the weight and the partner's latent against the
    partner's half. -/
def expand (M : Memref sig .tc .vmem S2x256x1024 .bf16) (hM : M.IsWhole) (b : ℕ) (hb : b < 2) (wa wb : Vec F S64x1024 .f32) : P F PUnit := do
  let a ← getSlab csM b 0 64 hb (by decide) h_S1x256x64
  let r ← getSlab crM b 0 64 hb (by decide) h_S1x256x64
  putSlab M b 0 1024 hb (by decide) h_S1x256x1024 (stores16 hM hb (by decide) h_S1x256x1024) (k0_pay24 wa wb a r)

/-- Head `h` of batch `b`. -/
def head (b : ℕ) (hb : b < 2) (kr : Vec F S1x256x32 .bf16) (h : ℕ) (hh : h < 16) : P F PUnit := do
  let q ← getSlab qM b (64 * h) 64 hb (by omega) h_S1x256x64
  let k ← getSlab kM b (64 * h) 64 hb (by omega) h_S1x256x64
  let qr ← getSlab qrM b (32 * h) 32 hb (by omega) h_S1x256x32
  let v ← getSlab vM b (64 * h) 64 hb (by omega) h_S1x256x64
  putSlab oM b (64 * h) 64 hb (by omega) h_S1x256x64 (stores16 (Memref.isWhole_whole _) hb (by omega) h_S1x256x64) (k0_pay31 kr q k qr v)

/-- The last `j` heads of batch `b`. -/
def heads (b : ℕ) (hb : b < 2) (kr : Vec F S1x256x32 .bf16) : (j : ℕ) → j ≤ 16 → P F PUnit
  | 0, _ => pure ⟨⟩
  | j + 1, hj => do head b hb kr (15 - j) (by omega); heads b hb kr j (by omega)

/-- Batch `b`'s output. -/
def attend (b : ℕ) (hb : b < 2) : P F PUnit := do
  let kr ← getSlab krM b 0 32 hb (by decide) h_S1x256x32
  heads b hb kr 16 le_rfl
  let o ← getSlab oM b 0 1024 hb (by decide) h_S1x256x1024
  let w ← getMat woM h_S1024x1024
  putSlab outM b 0 1024 hb (by decide) h_S1x256x1024 (View.stores_vmem_bits_univ h_S1x256x1024 rfl) (k0_pay2 o w)

/-- Everything after the last wait. -/
def tailProg : P F PUnit := do
  let wk ← getMat wukM h_S64x1024
  let wv ← getMat wuvM h_S64x1024
  let wkp ← getMat wukrM h_S64x1024
  let wvp ← getMat wuvrM h_S64x1024
  expand kM (Memref.isWhole_whole _) 0 (by decide) wk wkp
  expand vM (Memref.isWhole_whole _) 0 (by decide) wv wvp
  expand kM (Memref.isWhole_whole _) 1 (by decide) wk wkp
  expand vM (Memref.isWhole_whole _) 1 (by decide) wv wvp
  attend 0 (by decide)
  attend 1 (by decide)

/-- The six waits. -/
def waitsProg : P F PUnit := do
  Prog.lift (.waitDma2 (sendS 0) wukrM wukM (Memref.isWhole_whole _).wordExact (Memref.isWhole_whole _).wordExact)
  Prog.lift (.waitDma2 (recvS 0) wukM wukrM (Memref.isWhole_whole _).wordExact (Memref.isWhole_whole _).wordExact)
  Prog.lift (.waitDma2 (sendS 1) wuvrM wuvM (Memref.isWhole_whole _).wordExact (Memref.isWhole_whole _).wordExact)
  Prog.lift (.waitDma2 (recvS 1) wuvM wuvrM (Memref.isWhole_whole _).wordExact (Memref.isWhole_whole _).wordExact)
  Prog.lift (.waitDma2 (sendS 2) crM csM (Memref.isWhole_whole _).wordExact (Memref.isWhole_whole _).wordExact)
  Prog.lift (.waitDma2 (recvS 2) csM crM (Memref.isWhole_whole _).wordExact (Memref.isWhole_whole _).wordExact)

def bodyProg : P F PUnit := do
  let d ← Prog.lift .deviceId
  semSignalWord (⟨k0_dev1 d, k0_dev1_lt d⟩ : Dev nD) barS 1#32
  semWaitWord barS 1#32
  Prog.lift (.enqueueDma wukM (.remote (Dev.tc (⟨k0_dev2 d, k0_dev2_lt d⟩ : Dev nD)) wukrM (.dma (sendS 0))) (.dma (recvS 0))
    (Memref.isWhole_whole _).wordExact (Memref.isWhole_whole _).wordExact ⟨⟨rfl, Or.inl rfl⟩, trivial⟩)
  Prog.lift (.enqueueDma wuvM (.remote (Dev.tc (⟨k0_dev3 d, k0_dev3_lt d⟩ : Dev nD)) wuvrM (.dma (sendS 1))) (.dma (recvS 1))
    (Memref.isWhole_whole _).wordExact (Memref.isWhole_whole _).wordExact ⟨⟨rfl, Or.inl rfl⟩, trivial⟩)
  castX 0 (by decide)
  castX 1 (by decide)
  latent 0 (by decide)
  latent 1 (by decide)
  Prog.lift (.enqueueDma csM (.remote (Dev.tc (⟨k0_dev4 d, k0_dev4_lt d⟩ : Dev nD)) crM (.dma (sendS 2))) (.dma (recvS 2))
    (Memref.isWhole_whole _).wordExact (Memref.isWhole_whole _).wordExact ⟨⟨rfl, Or.inl rfl⟩, trivial⟩)
  let wq ← getMat wqM h_S1024x1024
  let wqr ← getMat wqrM h_S1024x512
  let wkr ← getMat wkrM h_S1024x32
  queries 0 (by decide) wq wqr wkr
  queries 1 (by decide) wq wqr wkr
  waitsProg
  tailProg

theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_stg8_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      cc0_scratch11 cc0_scratch12 = bodyProg (F := F) := by
  chain_rfl

end Cert.KernelIdeal.Mla

end
-- ==== Proof.KernelIdeal.Values.lean ====
/- What the kernel's buffers hold, as functions of the two devices' inputs: a window `cut` out of a batched array, a
   window overwritten (`paste`), an array put together from its two batches (`two`), and with them the contents of every
   buffer the body fills, over the payloads of the printed program. -/
module

public import proofs.«01_k».proof.Proof.KernelIdeal.Prog

@[expose] public section

noncomputable section

namespace Cert.KernelIdeal.Mla

open Cert.KernelIdeal Cert.KernelIdeal.Gen
open Idealize.ShloMosaic Idealize.ShloMosaic.TcCoe Idealize.SL.Sem

variable {F : FTy → Type} [FloatOps F]

/-! ## Windows -/

def ixR {w : ℕ} (i : Fin 256) (j : Fin w) : (Row w).Idx := fun | ⟨0, _⟩ => (0 : Fin 1) | ⟨1, _⟩ => i | ⟨2, _⟩ => j
def ixF {N : ℕ} (b : Fin 2) (i : Fin 256) (j : Fin N) : (Full N).Idx := fun | ⟨0, _⟩ => b | ⟨1, _⟩ => i | ⟨2, _⟩ => j

theorem ixR_eta {w : ℕ} (x : (Row w).Idx) : ixR (x 1) (x 2) = x := by
  funext a; fin_cases a
  · exact Subsingleton.elim (α := Fin 1) _ _
  · rfl
  · rfl
theorem ixF_eta {N : ℕ} (x : (Full N).Idx) : ixF (x 0) (x 1) (x 2) = x := by
  funext a; fin_cases a <;> rfl

theorem slab_emb {N b o w : ℕ} (hb : b < 2) (h : o + w ≤ N) (x : (Row w).Idx) :
    (slab N b o w hb h).emb x = ixF ⟨b, hb⟩ (x 1) ⟨o + (x 2).val, by have := (x 2).isLt; change (x 2).val < w at this; omega⟩ := by
  have h0 : (x 0).val = 0 := Nat.lt_one_iff.mp (x 0).isLt
  funext a; fin_cases a
  · exact Fin.ext (show b + 1 * (x 0).val = b by omega)
  · exact Fin.ext (show 0 + 1 * (x 1).val = (x 1).val by omega)
  · exact Fin.ext (show o + 1 * (x 2).val = o + (x 2).val by omega)

def cut {N : ℕ} {e : EltTy} (X : Vec F (Full N) e) (b o w : ℕ) (hb : b < 2) (h : o + w ≤ N) : Vec F (Row w) e :=
  fun x => X ((slab N b o w hb h).emb x)

open Classical in
def paste {N : ℕ} {e : EltTy} (X : Vec F (Full N) e) (b o w : ℕ) (hb : b < 2) (h : o + w ≤ N) (v : Vec F (Row w) e) : Vec F (Full N) e :=
  fun i => if p : ∃ x : (Row w).Idx, (slab N b o w hb h).emb x = i then v p.choose else X i

theorem paste_emb {N : ℕ} {e : EltTy} (X : Vec F (Full N) e) {b o w : ℕ} (hb : b < 2) (h : o + w ≤ N) (v : Vec F (Row w) e) (x : (Row w).Idx) :
    paste X b o w hb h v ((slab N b o w hb h).emb x) = v x := by
  unfold paste
  have p : ∃ y : (Row w).Idx, (slab N b o w hb h).emb y = (slab N b o w hb h).emb x := ⟨x, rfl⟩
  rw [dif_pos p, (slab N b o w hb h).emb.injective p.choose_spec]

theorem paste_off {N : ℕ} {e : EltTy} (X : Vec F (Full N) e) {b o w : ℕ} (hb : b < 2) (h : o + w ≤ N) (v : Vec F (Row w) e) (i : (Full N).Idx)
    (hi : ∀ x : (Row w).Idx, (slab N b o w hb h).emb x ≠ i) : paste X b o w hb h v i = X i := by
  unfold paste
  rw [dif_neg fun ⟨x, hx⟩ => hi x hx]

theorem cut_paste {N : ℕ} {e : EltTy} (X : Vec F (Full N) e) {b o w : ℕ} (hb : b < 2) (h : o + w ≤ N) (v : Vec F (Row w) e) :
    cut (paste X b o w hb h v) b o w hb h = v := funext fun x => paste_emb X hb h v x

/-- A window of another batch, or beside the one overwritten, is unchanged. -/
theorem cut_paste_off {N : ℕ} {e : EltTy} (X : Vec F (Full N) e) {b o w b' o' w' : ℕ} (hb : b < 2) (h : o + w ≤ N) (hb' : b' < 2) (h' : o' + w' ≤ N)
    (v : Vec F (Row w) e) (hne : b ≠ b' ∨ o + w ≤ o' ∨ o' + w' ≤ o) :
    cut (paste X b o w hb h v) b' o' w' hb' h' = cut X b' o' w' hb' h' := by
  funext y
  refine paste_off X hb h v _ fun x hx => ?_
  rw [slab_emb, slab_emb] at hx
  have e0 : b = b' := congrArg (fun i : (Full N).Idx => (i 0).val) hx
  have e2 : o + (x 2).val = o' + (y 2).val := congrArg (fun i : (Full N).Idx => (i 2).val) hx
  have hx2 : (x 2).val < w := (x 2).isLt
  have hy2 : (y 2).val < w' := (y 2).isLt
  omega

/-- The array of the two batches. -/
def two {N : ℕ} {e : EltTy} (p : (b : ℕ) → b < 2 → Vec F (Row N) e) : Vec F (Full N) e :=
  fun i => p (i 0).val (i 0).isLt (ixR (i 1) (i 2))

theorem full_zero (N : ℕ) : 0 + N ≤ N := by omega

theorem cut_two {N : ℕ} {e : EltTy} (p : (b : ℕ) → b < 2 → Vec F (Row N) e) {b : ℕ} (hb : b < 2) (h : 0 + N ≤ N) : cut (two p) b 0 N hb h = p b hb := by
  funext x
  unfold cut
  rw [slab_emb]
  show p b hb (ixR (x 1) ⟨0 + (x 2).val, _⟩) = p b hb x
  congr 1
  conv_rhs => rw [← ixR_eta x]
  congr 1
  exact Fin.ext (Nat.zero_add _)

theorem two_pastes {N : ℕ} {e : EltTy} (X : Vec F (Full N) e) (p : (b : ℕ) → b < 2 → Vec F (Row N) e) (h0 : 0 < 2) (h1 : 1 < 2) (h : 0 + N ≤ N) :
    paste (paste X 0 0 N h0 h (p 0 h0)) 1 0 N h1 h (p 1 h1) = two p := by
  have hc : ∀ (b : ℕ) (hb : b < 2), cut (paste (paste X 0 0 N h0 h (p 0 h0)) 1 0 N h1 h (p 1 h1)) b 0 N hb h = p b hb := by
    intro b hb
    rcases (show b = 0 ∨ b = 1 by omega) with rfl | rfl
    · rw [cut_paste_off _ _ _ _ _ _ (.inl (by decide)), cut_paste]
    · rw [cut_paste]
  funext i
  have hi : (slab N (i 0).val 0 N (i 0).isLt h).emb (ixR (i 1) (i 2)) = i := by
    rw [slab_emb _ h]
    conv_rhs => rw [← ixF_eta i]
    exact congrArg (ixF _ _) (Fin.ext (Nat.zero_add _))
  have := congrFun (hc (i 0).val (i 0).isLt) (ixR (i 1) (i 2))
  unfold cut at this
  rw [hi] at this
  exact this

/-! ## The buffers -/

/-- One device's arguments. -/
structure Args (F : FTy → Type) where
  x : Vec F S2x256x1024 .f32
  wdkv : Vec F S1024x64 .f32
  wuk : Vec F S64x1024 .f32
  wuv : Vec F S64x1024 .f32
  wq : Vec F S1024x1024 .f32
  wqr : Vec F S1024x512 .f32
  wkr : Vec F S1024x32 .f32
  wo : Vec F S1024x1024 .f32

variable (A B : Args F)

def x16B (b : ℕ) (hb : b < 2) : Vec F (Row 1024) .bf16 := k0_pay3 (cut A.x b 0 1024 hb (by decide))
def csB (b : ℕ) (hb : b < 2) : Vec F (Row 64) .bf16 := k0_pay6 (x16B A b hb) A.wdkv
def qB (b : ℕ) (hb : b < 2) : Vec F (Row 1024) .bf16 := k0_pay12 A.wq (x16B A b hb)
def qrB (b : ℕ) (hb : b < 2) : Vec F (Row 512) .bf16 := k0_pay13 A.wqr (x16B A b hb)
def krB (b : ℕ) (hb : b < 2) : Vec F (Row 32) .bf16 := k0_pay14 A.wkr (x16B A b hb)
/-- Keys and values of the device with arguments `A`, its partner's arguments being `B`. -/
def kB (b : ℕ) (hb : b < 2) : Vec F (Row 1024) .bf16 := k0_pay24 A.wuk B.wuk (csB A b hb) (csB B b hb)
def vB (b : ℕ) (hb : b < 2) : Vec F (Row 1024) .bf16 := k0_pay24 A.wuv B.wuv (csB A b hb) (csB B b hb)

/-- Head `h` of batch `b`. -/
def headB (b : ℕ) (hb : b < 2) (h : ℕ) (hh : h < 16) : Vec F (Row 64) .bf16 :=
  k0_pay31 (krB A b hb) (cut (two (qB A)) b (64 * h) 64 hb (by omega)) (cut (two (kB A B)) b (64 * h) 64 hb (by omega))
    (cut (two (qrB A)) b (32 * h) 32 hb (by omega)) (cut (two (vB A B)) b (64 * h) 64 hb (by omega))

/-- The heads of batch `b` side by side. -/
def oB (b : ℕ) (hb : b < 2) : Vec F (Row 1024) .bf16 :=
  fun i => headB A B b hb ((i 2).val / 64) (by have : (i 2).val < 1024 := (i 2).isLt; omega) (ixR (i 1) ⟨(i 2).val % 64, Nat.mod_lt _ (by decide)⟩)

def outB (b : ℕ) (hb : b < 2) : Vec F (Row 1024) .f32 := k0_pay2 (oB A B b hb) A.wo
/-- The kernel's result. -/
def outV : Vec F (Full 1024) .f32 := two (outB A B)

/-- An array whose sixteen column blocks of batch `b` are the heads has them side by side there. -/
theorem cut_heads (X : Vec F (Full 1024) .bf16) (b : ℕ) (hb : b < 2)
    (H : ∀ (h : ℕ) (hh : h < 16), cut X b (64 * h) 64 hb (by omega) = headB A B b hb h hh) (hN : 0 + 1024 ≤ 1024) :
    cut X b 0 1024 hb hN = oB A B b hb := by
  funext x
  have hx : (x 2).val < 1024 := (x 2).isLt
  have := congrFun (H ((x 2).val / 64) (by omega)) (ixR (x 1) ⟨(x 2).val % 64, Nat.mod_lt _ (by decide)⟩)
  unfold cut at this ⊢
  unfold oB
  rw [← this, slab_emb, slab_emb]
  refine congrArg X (congrArg (ixF _ _) (Fin.ext ?_))
  show 0 + (x 2).val = 64 * ((x 2).val / 64) + (x 2).val % 64
  omega

end Cert.KernelIdeal.Mla

end
-- ==== Proof.KernelIdeal.Steps.lean ====
/- The stages of the body that touch no semaphore, each with what it leaves in the buffers. -/
module

public import proofs.«01_k».proof.Proof.KernelIdeal.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshake's ghost state beside the launch library's. -/
abbrev UB : Type := URounds (GSem nD τ sig) Unit
abbrev UU : Type := UR sig nD τ × UB

local notation "𝕄" => MT nD τ sig Unit (Elt F) ℕ UU ℕ

/-- Device `c` owns the buffer, holding `X`. -/
abbrev own (c : Dev nD) {s : Shape} {e : EltTy} (M : Memref sig .tc .vmem s e) (X : Vec F s e) : sProp 𝕄 :=
  owns (c : Thread nD τ) M fullShare X
/-- Device `c` owns the buffer, whatever it holds. -/
abbrev any (c : Dev nD) {s : Shape} {e : EltTy} (M : Memref sig .tc .vmem s e) : sProp 𝕄 := iprop(∃ X : Vec F s e, own c M X)

abbrev WP {α : Type} (c : Dev nD) (p : P F α) (Q : α → sProp 𝕄) : sProp 𝕄 :=
  wp frame (wpE (defs₀ (F := F)) Variants.none (c : Thread nD τ) none) Set.univ p Q

/-- From a program's rule, the rule for the program with something after it. -/
theorem seq {α β : Type} {c : Dev nD} {p : P F α} {v : α} {A B : sProp 𝕄} (h : ∀ Q : α → sProp 𝕄, iprop(A ∗ (B -∗ Q v)) ⊢ WP c p Q)
    {k : α → P F β} {Q : β → sProp 𝕄} : A ⊢ iprop((B -∗ WP c (k v) Q) -∗ WP c (p >>= k) Q) := by
  iintro HA Hk
  unfold WP
  rw [wp_bind]
  iapply (h fun a => WP c (k a) Q)
  isplitl [HA]
  · iexact HA
  · iexact Hk

/-! ## Accesses -/

section Access
variable (c : Dev nD) {N : ℕ} {e : EltTy} (M : Memref sig .tc .vmem (Full N) e) (X : Vec F (Full N) e)
  {b o w : ℕ} (hb : b < 2) (h : o + w ≤ N) (hw : 0 < (Row w).numel)

theorem get_spec (Q : Vec F (Row w) e → sProp 𝕄) :
    iprop(own c M X ∗ (own c M X -∗ Q (cut X b o w hb h))) ⊢ WP c (getSlab M b o w hb h hw) Q := by
  unfold own owns
  iintro ⟨⟨%f, %hf, H⟩, Hk⟩
  unfold getSlab Prog.lift
  iapply (wp_load Variants.none (c : Thread nD τ) none Set.univ (S := M.view.set) (q := fullShare) (f := f) (View.setOn_subset_set _ _)) $$ [H]
  · iexact H
  iintro H
  rw [wp_ret]
  imodintro
  have e1 : M.view.readAt (Elt F) (slab N b o w hb h).toLoadRect f = cut X b o w hb h := by
    rw [← hf]; rfl
  rw [e1]
  iapply Hk
  iexists f
  isplitr; · ipureintro; exact hf
  iexact H

theorem put_spec (hx : (M.access (slab N b o w hb h)).Stores Finset.univ) (v : Vec F (Row w) e) (Q : PUnit → sProp 𝕄) :
    iprop(own c M X ∗ (own c M (paste X b o w hb h v) -∗ Q ⟨⟩)) ⊢ WP c (putSlab M b o w hb h hw hx v) Q := by
  iintro ⟨H, Hk⟩
  unfold putSlab
  iapply (seq (get_spec c M X hb h hw)) $$ [H]
  · iexact H
  unfold own owns
  iintro ⟨%f, %hf, H⟩
  unfold Prog.lift
  iapply (wp_store Variants.none (c : Thread nD τ) none Set.univ (m := M) (r := slab N b o w hb h) (Mk := Finset.univ) (S := M.view.set) (f := f)
    ((View.setOn_subset_set _ _).trans (View.set_slice_subset _ _))) $$ [H]
  · iexact H
  iintro H
  rw [wp_ret]
  imodintro
  iapply Hk
  iexists ((M.access (slab N b o w hb h)).write (Elt F) f v Finset.univ)
  isplitr
  · ipureintro
    funext i
    by_cases p : ∃ x : (Row w).Idx, (slab N b o w hb h).emb x = i
    · obtain ⟨x, rfl⟩ := p
      rw [paste_emb]
      exact View.read_slice_write_emb _ _ _ (Finset.mem_univ x)
    · rw [paste_off _ _ _ _ _ fun x hx => p ⟨x, hx⟩, ← hf]
      refine View.read_slice_write_of_not_mem _ _ _ _ fun hi => p ?_
      obtain ⟨x, -, hx⟩ := Finset.mem_map.mp hi
      exact ⟨x, hx⟩
  iexact H

theorem mat_spec {R N' : ℕ} (M : Memref sig .tc .vmem (Mat R N') e) (X : Vec F (Mat R N') e) (hn : 0 < (Mat R N').numel)
    (Q : Vec F (Mat R N') e → sProp 𝕄) :
    iprop(own c M X ∗ (own c M X -∗ Q X)) ⊢ WP c (getMat M hn) Q := by
  unfold own owns
  iintro ⟨⟨%f, %hf, H⟩, Hk⟩
  unfold getMat Prog.lift
  iapply (wp_load Variants.none (c : Thread nD τ) none Set.univ (S := M.view.set) (q := fullShare) (f := f) (View.setOn_subset_set _ _)) $$ [H]
  · iexact H
  iintro H
  rw [wp_ret]
  imodintro
  have e1 : M.view.readAt (Elt F) (matR R N').toLoadRect f = X := by
    rw [← hf]
    funext i
    refine congrArg (M.view.read (Elt F) f) (funext fun a => Fin.ext ?_)
    fin_cases a
    · show 0 + 1 * (i 0).val = (i 0).val; omega
    · show 0 + 1 * (i 1).val = (i 1).val; omega
  rw [e1]
  iapply Hk
  iexists f
  isplitr; · ipureintro; exact hf
  iexact H

end Access

/-! ## The stages of one batch -/

section Stages
variable (c : Dev nD) (A B : Args F) (b : ℕ) (hb : b < 2)

theorem castX_spec (X : Vec F (Full 1024) .bf16) (Q : PUnit → sProp 𝕄) :
    iprop((own c xM A.x ∗ own c x16M X)
        ∗ ((own c xM A.x ∗ own c x16M (paste X b 0 1024 hb (by decide) (x16B A b hb))) -∗ Q ⟨⟩)) ⊢ WP c (castX b hb) Q := by
  iintro ⟨⟨Hx, Hy⟩, Hk⟩
  unfold castX
  iapply (seq (get_spec c xM A.x hb _ h_S1x256x1024)) $$ [Hx]
  · iexact Hx
  iintro Hx
  iapply (put_spec c x16M X hb)
  isplitl [Hy]; · iexact Hy
  iintro Hy
  iapply Hk
  isplitl [Hx]; · iexact Hx
  iexact Hy

theorem latent_spec (X : Vec F (Full 64) .bf16) (Q : PUnit → sProp 𝕄) :
    iprop((own c x16M (two (x16B A)) ∗ own c wdkvM A.wdkv ∗ own c csM X)
        ∗ ((own c x16M (two (x16B A)) ∗ own c wdkvM A.wdkv ∗ own c csM (paste X b 0 64 hb (by decide) (csB A b hb))) -∗ Q ⟨⟩))
      ⊢ WP c (latent b hb) Q := by
  iintro ⟨⟨Hx, Hw, Hy⟩, Hk⟩
  unfold latent
  iapply (seq (get_spec c x16M (two (x16B A)) hb _ h_S1x256x1024)) $$ [Hx]
  · iexact Hx
  rw [cut_two]
  iintro Hx
  iapply (seq (mat_spec c wdkvM A.wdkv h_S1024x64)) $$ [Hw]
  · iexact Hw
  iintro Hw
  iapply (put_spec c csM X hb)
  isplitl [Hy]; · iexact Hy
  iintro Hy
  iapply Hk
  isplitl [Hx]; · iexact Hx
  isplitl [Hw]; · iexact Hw
  iexact Hy

theorem queries_spec (Xq : Vec F (Full 1024) .bf16) (Xr : Vec F (Full 512) .bf16) (Xk : Vec F (Full 32) .bf16) (Q : PUnit → sProp 𝕄) :
    iprop((own c x16M (two (x16B A)) ∗ own c qM Xq ∗ own c qrM Xr ∗ own c krM Xk)
        ∗ ((own c x16M (two (x16B A)) ∗ own c qM (paste Xq b 0 1024 hb (by decide) (qB A b hb))
            ∗ own c qrM (paste Xr b 0 512 hb (by decide) (qrB A b hb)) ∗ own c krM (paste Xk b 0 32 hb (by decide) (krB A b hb))) -∗ Q ⟨⟩))
      ⊢ WP c (queries b hb A.wq A.wqr A.wkr) Q := by
  iintro ⟨⟨Hx, Hq, Hr, Hkr⟩, Hk⟩
  unfold queries
  iapply (seq (get_spec c x16M (two (x16B A)) hb _ h_S1x256x1024)) $$ [Hx]
  · iexact Hx
  rw [cut_two]
  iintro Hx
  iapply (seq (put_spec c qM Xq hb _ _ _ _)) $$ [Hq]
  · iexact Hq
  iintro Hq
  iapply (seq (put_spec c qrM Xr hb _ _ _ _)) $$ [Hr]
  · iexact Hr
  iintro Hr
  iapply (put_spec c krM Xk hb)
  isplitl [Hkr]; · iexact Hkr
  iintro Hkr
  iapply Hk
  isplitl [Hx]; · iexact Hx
  isplitl [Hq]; · iexact Hq
  isplitl [Hr]; · iexact Hr
  iexact Hkr

theorem expand_spec (M : Memref sig .tc .vmem S2x256x1024 .bf16) (hM : M.IsWhole) (wa wb : Vec F S64x1024 .f32) (X : Vec F (Full 1024) .bf16)
    (v : Vec F (Row 1024) .bf16) (hv : k0_pay24 wa wb (csB A b hb) (csB B b hb) = v) (Q : PUnit → sProp 𝕄) :
    iprop((own c csM (two (csB A)) ∗ own c crM (two (csB B)) ∗ own c M X)
        ∗ ((own c csM (two (csB A)) ∗ own c crM (two (csB B))
            ∗ own c M (paste X b 0 1024 hb (by decide) v)) -∗ Q ⟨⟩))
      ⊢ WP c (expand M hM b hb wa wb) Q := by
  subst hv
  iintro ⟨⟨Ha, Hr, Hy⟩, Hk⟩
  unfold expand
  iapply (seq (get_spec c csM (two (csB A)) hb _ h_S1x256x64)) $$ [Ha]
  · iexact Ha
  rw [cut_two]
  iintro Ha
  iapply (seq (get_spec c crM (two (csB B)) hb _ h_S1x256x64)) $$ [Hr]
  · iexact Hr
  rw [cut_two]
  iintro Hr
  iapply (put_spec c M X hb)
  isplitl [Hy]; · iexact Hy
  iintro Hy
  iapply Hk
  isplitl [Ha]; · iexact Ha
  isplitl [Hr]; · iexact Hr
  iexact Hy

/-- What the heads read. -/
def headIns : sProp 𝕄 :=
  iprop(own c qM (two (qB A)) ∗ own c kM (two (kB A B)) ∗ own c qrM (two (qrB A)) ∗ own c vM (two (vB A B)))

theorem head_spec (h : ℕ) (hh : h < 16) (X : Vec F (Full 1024) .bf16) (Q : PUnit → sProp 𝕄) :
    iprop((headIns c A B ∗ own c oM X)
        ∗ ((headIns c A B ∗ own c oM (paste X b (64 * h) 64 hb (by omega) (headB A B b hb h hh))) -∗ Q ⟨⟩))
      ⊢ WP c (head b hb (krB A b hb) h hh) Q := by
  unfold headIns
  iintro ⟨⟨⟨Hq, Hkk, Hr, Hv⟩, Hy⟩, Hk⟩
  unfold head
  iapply (seq (get_spec c qM (two (qB A)) hb _ h_S1x256x64)) $$ [Hq]
  · iexact Hq
  iintro Hq
  iapply (seq (get_spec c kM (two (kB A B)) hb _ h_S1x256x64)) $$ [Hkk]
  · iexact Hkk
  iintro Hkk
  iapply (seq (get_spec c qrM (two (qrB A)) hb _ h_S1x256x32)) $$ [Hr]
  · iexact Hr
  iintro Hr
  iapply (seq (get_spec c vM (two (vB A B)) hb _ h_S1x256x64)) $$ [Hv]
  · iexact Hv
  iintro Hv
  iapply (put_spec c oM X hb)
  isplitl [Hy]; · iexact Hy
  iintro Hy
  iapply Hk
  isplitr [Hy]
  · isplitl [Hq]; · iexact Hq
    isplitl [Hkk]; · iexact Hkk
    isplitl [Hr]; · iexact Hr
    iexact Hv
  iexact Hy

/-- The first `n` heads of batch `b` are in place. -/
def Done (X : Vec F (Full 1024) .bf16) (n : ℕ) : Prop :=
  ∀ (h : ℕ) (hh : h < 16), h < n → cut X b (64 * h) 64 hb (by omega) = headB A B b hb h hh

theorem heads_spec : ∀ (j : ℕ) (hj : j ≤ 16) (X : Vec F (Full 1024) .bf16) (hX : Done A B b hb X (16 - j)) (Q : PUnit → sProp 𝕄),
    iprop((headIns c A B ∗ own c oM X)
        ∗ ((headIns c A B ∗ ∃ Y : Vec F (Full 1024) .bf16, ⌜Done A B b hb Y 16⌝ ∗ own c oM Y) -∗ Q ⟨⟩))
      ⊢ WP c (heads b hb (krB A b hb) j hj) Q
  | 0, hj, X, hX, Q => by
    iintro ⟨⟨Hi, Hy⟩, Hk⟩
    unfold heads
    unfold WP
    rw [Prog.pure_eq_ret, wp_ret]
    imodintro
    iapply Hk
    isplitl [Hi]; · iexact Hi
    iexists X
    isplitr; · ipureintro; exact hX
    iexact Hy
  | j + 1, hj, X, hX, Q => by
    iintro ⟨HA, Hk⟩
    unfold heads
    iapply (seq (head_spec c A B b hb (15 - j) _ X)) $$ [HA]
    · iexact HA
    iintro HA
    have hX' : Done A B b hb (paste X b (64 * (15 - j)) 64 hb (by omega) (headB A B b hb (15 - j) (by omega))) (16 - j) := by
      intro h hh hn
      by_cases e : h = 15 - j
      · subst e; rw [cut_paste]
      · rw [cut_paste_off _ _ _ _ _ _ (.inr (by omega))]
        exact hX h hh (by omega)
    iapply (heads_spec j _ _ hX' Q)
    isplitl [HA]; · iexact HA
    iexact Hk

theorem attend_spec (Y : Vec F (Full 1024) .f32) (Q : PUnit → sProp 𝕄) :
    iprop((own c krM (two (krB A)) ∗ headIns c A B ∗ any c oM ∗ own c woM A.wo ∗ own c outM Y)
        ∗ ((own c krM (two (krB A)) ∗ headIns c A B ∗ any c oM ∗ own c woM A.wo
            ∗ own c outM (paste Y b 0 1024 hb (by decide) (outB A B b hb))) -∗ Q ⟨⟩))
      ⊢ WP c (attend b hb) Q := by
  iintro ⟨⟨Hkr, Hi, ⟨%X, Ho⟩, Hw, Hy⟩, Hk⟩
  unfold attend
  iapply (seq (get_spec c krM (two (krB A)) hb _ h_S1x256x32)) $$ [Hkr]
  · iexact Hkr
  rw [cut_two]
  iintro Hkr
  iapply (seq (heads_spec c A B b hb 16 le_rfl X (fun h hh hn => absurd hn (by omega)))) $$ [Hi Ho]
  · isplitl [Hi]; · iexact Hi
    iexact Ho
  iintro ⟨Hi, ⟨%Z, %hZ, Ho⟩⟩
  iapply (seq (get_spec c oM Z hb _ h_S1x256x1024)) $$ [Ho]
  · iexact Ho
  rw [cut_heads A B Z b hb fun h hh => hZ h hh hh]
  iintro Ho
  iapply (seq (mat_spec c woM A.wo h_S1024x1024)) $$ [Hw]
  · iexact Hw
  iintro Hw
  iapply (put_spec c outM Y hb)
  isplitl [Hy]; · iexact Hy
  iintro Hy
  iapply Hk
  isplitl [Hkr]; · iexact Hkr
  isplitl [Hi]; · iexact Hi
  isplitl [Ho]; · iexists Z; iexact Ho
  isplitl [Hw]; · iexact Hw
  iexact Hy

end Stages

/-! ## After the last wait -/

section Tail
variable (c : Dev nD) (A B : Args F)

/-- What the part after the waits reads. -/
def tailIns : sProp 𝕄 :=
  iprop(own c wukM A.wuk ∗ own c wuvM A.wuv ∗ own c wukrM B.wuk ∗ own c wuvrM B.wuv ∗ own c csM (two (csB A)) ∗ own c crM (two (csB B))
    ∗ own c qM (two (qB A)) ∗ own c qrM (two (qrB A)) ∗ own c krM (two (krB A)) ∗ own c woM A.wo)

theorem tail_spec (Q : PUnit → sProp 𝕄) :
    iprop((tailIns c A B ∗ any c kM ∗ any c vM ∗ any c oM ∗ any c outM)
        ∗ ((tailIns c A B ∗ any c kM ∗ any c vM ∗ any c oM ∗ own c outM (outV A B)) -∗ Q ⟨⟩))
      ⊢ WP c tailProg Q := by
  unfold tailIns
  iintro ⟨⟨⟨Hwk, Hwv, Hwkr, Hwvr, Hcs, Hcr, Hq, Hqr, Hkr, Hwo⟩, ⟨%Xk, Hkb⟩, ⟨%Xv, Hvb⟩, Ho, ⟨%Xo, Hout⟩⟩, Hk⟩
  unfold tailProg
  iapply (seq (mat_spec c wukM A.wuk h_S64x1024)) $$ [Hwk]
  · iexact Hwk
  iintro Hwk
  iapply (seq (mat_spec c wuvM A.wuv h_S64x1024)) $$ [Hwv]
  · iexact Hwv
  iintro Hwv
  iapply (seq (mat_spec c wukrM B.wuk h_S64x1024)) $$ [Hwkr]
  · iexact Hwkr
  iintro Hwkr
  iapply (seq (mat_spec c wuvrM B.wuv h_S64x1024)) $$ [Hwvr]
  · iexact Hwvr
  iintro Hwvr
  iapply (seq (expand_spec c A B 0 _ kM (Memref.isWhole_whole _) A.wuk B.wuk Xk (kB A B 0 _) rfl)) $$ [Hcs Hcr Hkb]
  · isplitl [Hcs]; · iexact Hcs
    isplitl [Hcr]; · iexact Hcr
    iexact Hkb
  iintro ⟨Hcs, Hcr, Hkb⟩
  iapply (seq (expand_spec c A B 0 _ vM (Memref.isWhole_whole _) A.wuv B.wuv Xv (vB A B 0 _) rfl)) $$ [Hcs Hcr Hvb]
  · isplitl [Hcs]; · iexact Hcs
    isplitl [Hcr]; · iexact Hcr
    iexact Hvb
  iintro ⟨Hcs, Hcr, Hvb⟩
  iapply (seq (expand_spec c A B 1 _ kM (Memref.isWhole_whole _) A.wuk B.wuk _ (kB A B 1 _) rfl)) $$ [Hcs Hcr Hkb]
  · isplitl [Hcs]; · iexact Hcs
    isplitl [Hcr]; · iexact Hcr
    iexact Hkb
  iintro ⟨Hcs, Hcr, Hkb⟩
  iapply (seq (expand_spec c A B 1 _ vM (Memref.isWhole_whole _) A.wuv B.wuv _ (vB A B 1 _) rfl)) $$ [Hcs Hcr Hvb]
  · isplitl [Hcs]; · iexact Hcs
    isplitl [Hcr]; · iexact Hcr
    iexact Hvb
  iintro ⟨Hcs, Hcr, Hvb⟩
  rw [two_pastes Xk (kB A B), two_pastes Xv (vB A B)]
  iapply (seq (attend_spec c A B 0 _ Xo)) $$ [Hkr Hq Hkb Hqr Hvb Ho Hwo Hout]
  · unfold headIns
    isplitl [Hkr]; · iexact Hkr
    isplitl [Hq Hkb Hqr Hvb]
    · isplitl [Hq]; · iexact Hq
      isplitl [Hkb]; · iexact Hkb
      isplitl [Hqr]; · iexact Hqr
      iexact Hvb
    isplitl [Ho]; · iexact Ho
    isplitl [Hwo]; · iexact Hwo
    iexact Hout
  iintro HA
  iapply (attend_spec c A B 1 _ _)
  isplitl [HA]; · iexact HA
  unfold headIns
  iintro ⟨Hkr, ⟨Hq, Hkb, Hqr, Hvb⟩, Ho, Hwo, Hout⟩
  rw [two_pastes Xo (outB A B)]
  iapply Hk
  isplitr [Hkb Hvb Ho Hout]
  · isplitl [Hwk]; · iexact Hwk
    isplitl [Hwv]; · iexact Hwv
    isplitl [Hwkr]; · iexact Hwkr
    isplitl [Hwvr]; · iexact Hwvr
    isplitl [Hcs]; · iexact Hcs
    isplitl [Hcr]; · iexact Hcr
    isplitl [Hq]; · iexact Hq
    isplitl [Hqr]; · iexact Hqr
    isplitl [Hkr]; · iexact Hkr
    iexact Hwo
  isplitl [Hkb]; · iexists two (kB A B); iexact Hkb
  isplitl [Hvb]; · iexists two (vB A B); iexact Hvb
  isplitl [Ho]; · iexact Ho
  iexact Hout

end Tail

end Cert.KernelIdeal.Mla

end
-- ==== Proof.KernelIdeal.Proto.lean ====
/- The handshake and the three copies: per device seven semaphore cells — the barrier, and a send and a receive cell for
   each copy — every one of them one round with one duty. A device's partner pays its barrier cell, handing over the
   three landing buffers, and its receive cells, handing over each landing buffer filled; a device's own transfers pay
   its send cells, handing the source back. -/
module

public import proofs.«01_k».proof.Proof.KernelIdeal.Steps

@[expose] public section

noncomputable section

namespace Cert.KernelIdeal.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

set_option backward.proofsInPublic true in
def par (c : Dev nD) : Dev nD := ⟨1 - c.val, by have : c.val < 2 := c.isLt; show 1 - c.val < 2; omega⟩
theorem par_par (c : Dev nD) : par (par c) = c := by revert c; decide
def swap : Dev nD ≃ Dev nD := ⟨par, par, par_par, par_par⟩

theorem dev1_eq (c : Dev nD) : (⟨k0_dev1 c, k0_dev1_lt c⟩ : Dev nD) = par c := Fin.ext (k0_dev1_eq c)
theorem dev2_eq (c : Dev nD) : (⟨k0_dev2 c, k0_dev2_lt c⟩ : Dev nD) = par c := Fin.ext (k0_dev2_eq c)
theorem dev3_eq (c : Dev nD) : (⟨k0_dev3 c, k0_dev3_lt c⟩ : Dev nD) = par c := Fin.ext (k0_dev3_eq c)
theorem dev4_eq (c : Dev nD) : (⟨k0_dev4 c, k0_dev4_lt c⟩ : Dev nD) = par c := Fin.ext (k0_dev4_eq c)

/-! ## The cells -/

/-- 0 the barrier, 1–3 the send cells, 4–6 the receive cells. -/
abbrev csem : Fin 7 → SemLoc sig
  | 0 => .reg barS | 1 => .dma (sendS 0) | 2 => .dma (sendS 1) | 3 => .dma (sendS 2)
  | 4 => .dma (recvS 0) | 5 => .dma (recvS 1) | 6 => .dma (recvS 2)
/-- The six of them that are the kernel's own. -/
abbrev osem : Fin 6 → SemLoc sig := fun k => csem k.succ
abbrev kcell (ck : Dev nD × Fin 7) : GSem nD τ sig := ((ck.1 : Thread nD τ), csem ck.2)

theorem csem_injective : Function.Injective csem := by decide

def idxOf (s : SemLoc sig) : Option (Fin 7) := (List.finRange 7).find? fun k => decide (csem k = s)
theorem idxOf_csem : ∀ k, idxOf (csem k) = some k := by decide

/-- What each cell's round counts. -/
def amt : Fin 7 → ℕ
  | 0 => 1
  | 1 => (wukrM).view.dmaCredit | 4 => (wukrM).view.dmaCredit
  | 2 => (wuvrM).view.dmaCredit | 5 => (wuvrM).view.dmaCredit
  | 3 => (crM).view.dmaCredit | 6 => (crM).view.dmaCredit

theorem amt_pos : ∀ k, 0 < amt k
  | 0 => Nat.one_pos
  | 1 | 4 => View.dmaCredit_pos _ (by decide)
  | 2 | 5 => View.dmaCredit_pos _ (by decide)
  | 3 | 6 => View.dmaCredit_pos _ (by decide)

/-! ## The schedule -/

section Schedule
variable (I : Dev nD → Args F)

/-- What each cell's units hand device `c`. -/
def pay (c : Dev nD) : Fin 7 → sProp 𝕄
  | 0 => iprop(any (par c) crM ∗ any (par c) wukrM ∗ any (par c) wuvrM)
  | 1 => own c wukM (I c).wuk
  | 2 => own c wuvM (I c).wuv
  | 3 => own c csM (two (csB (I c)))
  | 4 => own c wukrM (I (par c)).wuk
  | 5 => own c wuvrM (I (par c)).wuv
  | 6 => own c crM (two (csB (I (par c))))

instance pay_storable (c : Dev nD) (k : Fin 7) : BI.Storable (upEmb : UEmb _ 𝕄) (pay I c k) := by
  unfold pay; split <;> infer_instance

def sched : Rounds.Schedule (GSem nD τ sig) Unit 𝕄 where
  duties g r := if r = 0 ∧ g.1.2 = .tc ∧ (idxOf g.2).isSome then Finset.univ else ∅
  unitless _ := False
  amount g _ _ := (idxOf g.2).elim 1 amt
  payload g _ _ := (idxOf g.2).elim iprop(emp) (pay I g.1.1)
  amount_pos g _ _ _ := by
    cases idxOf g.2 with
    | none => exact Nat.one_pos
    | some k => exact amt_pos k

instance sched_payload_storable (g : GSem nD τ sig) (r : ℕ) (d : Unit) : BI.Storable (upEmb : UEmb _ 𝕄) ((sched I).payload g r d) := by
  show BI.Storable upEmb ((idxOf g.2).elim iprop(emp) (pay I g.1.1))
  cases idxOf g.2 <;> (dsimp only [Option.elim]; infer_instance)

variable (c : Dev nD) (k : Fin 7)

theorem duties_at : (sched I).duties (kcell (c, k)) 0 = Finset.univ := by
  dsimp only [sched, kcell]; exact if_pos ⟨rfl, rfl, by rw [idxOf_csem]; rfl⟩
theorem duties_later (g : GSem nD τ sig) : ∀ r, 1 ≤ r → (sched I).duties g r = ∅ := fun r hr => by
  dsimp only [sched]; exact if_neg fun h => absurd h.1 (by omega)
theorem amount_at (d : Unit) : (sched I).amount (kcell (c, k)) 0 d = amt k := by
  dsimp only [sched, kcell]; rw [idxOf_csem]; rfl
theorem payload_at (d : Unit) : (sched I).payload (kcell (c, k)) 0 d = pay I c k := by
  dsimp only [sched, kcell]; rw [idxOf_csem]; rfl
theorem expect_at : (sched I).expect (kcell (c, k)) 0 = amt k := by
  unfold Schedule.expect Schedule.amountOf
  rw [duties_at, Finset.sum_congr rfl fun d _ => amount_at I c k d]
  exact Finset.sum_singleton _ _
theorem rest_at : bigSep ((sched I).duties (kcell (c, k)) 0 \ ∅) (fun d => (sched I).payload (kcell (c, k)) 0 d) = pay I c k := by
  rw [Finset.sdiff_empty, duties_at, show (Finset.univ : Finset Unit) = {()} from rfl, bigSep_singleton, payload_at]

end Schedule

/-! ## What a device owes; the levels -/

/-- The units device `c` adds to its partner's cell `k`. -/
abbrev tally (c : Dev nD) (k : Fin 7) : CellTallies nD τ sig Unit := tallyAt (kcell (par c, k)) () (amt k)
def O₁ (c : Dev nD) : CellTallies nD τ sig Unit := (tally c 6 + tally c 5) + tally c 4
def O₀ (c : Dev nD) : CellTallies nD τ sig Unit := O₁ c + tally c 0

def L (g : GSem nD τ sig) : Finset Unit := if g.1.2 = .tc then {()} else ∅
def clev : Fin 7 → ℕ | 0 => 1 | 1 | 2 | 3 => 0 | 4 | 5 | 6 => 2
/-- Barrier cells at 1, receive cells at 2, all others at 0. -/
def lv (g : GSem nD τ sig) (_ : Unit) : ℕ := (idxOf g.2).elim 0 clev

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 7) (u : Unit) : lv (kcell (c, k)) u = clev k := by
  dsimp only [lv, kcell]; rw [idxOf_csem]; rfl

theorem tally_pos {c : Dev nD} {k : Fin 7} {g : GSem nD τ sig} {u : Unit} (h : 0 < tally c k g u) : g = kcell (par c, k) := by
  rw [tallyAt_apply] at h
  by_contra hn
  rw [if_neg fun h' => hn h'.1] at h
  exact Nat.lt_irrefl 0 h
theorem O₁_pos {c : Dev nD} {g : GSem nD τ sig} {u : Unit} (h : 0 < O₁ c g u) : ∃ k, g = kcell (par c, k) ∧ 2 ≤ clev k := by
  unfold O₁ at h
  rw [Pi.add_apply, Finsupp.add_apply, Pi.add_apply, Finsupp.add_apply] at h
  rcases (show 0 < tally c 6 g u ∨ 0 < tally c 5 g u ∨ 0 < tally c 4 g u by omega) with h | h | h
  · exact ⟨6, tally_pos h, le_rfl⟩
  · exact ⟨5, tally_pos h, le_rfl⟩
  · exact ⟨4, tally_pos h, le_rfl⟩
theorem O₀_pos {c : Dev nD} {g : GSem nD τ sig} {u : Unit} (h : 0 < O₀ c g u) : ∃ k, g = kcell (par c, k) ∧ 1 ≤ clev k := by
  unfold O₀ at h
  rw [Pi.add_apply, Finsupp.add_apply] at h
  rcases (show 0 < O₁ c g u ∨ 0 < tally c 0 g u by omega) with h | h
  · obtain ⟨k, hk, hl⟩ := O₁_pos h; exact ⟨k, hk, by omega⟩
  · exact ⟨0, tally_pos h, le_rfl⟩

/-- A wait on a cell of level at most `n` while everything owed is to partners' cells above `n`. -/
theorem mayWait_cut (c : Dev nD) (sm : SemLoc sig) (O : CellTallies nD τ sig Unit) (n : ℕ) (hs : lv ((c : Thread nD τ), sm) () ≤ n)
    (hO : ∀ g u, 0 < O g u → ∃ k, g = kcell (par c, k) ∧ n + 1 ≤ clev k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨k, rfl, -⟩ := hO g u hg; rw [L_tc]; exact Finset.mem_singleton_self _)
    (fun p hp => by rw [Finset.mem_singleton.mp hp]; exact hs)
    (fun g u hg => by obtain ⟨k, rfl, hl⟩ := hO g u hg; rw [lv_at]; exact hl)
theorem mayWait_bar (c : Dev nD) : (levAts L lv : sProp 𝕄) ⊢ MayWait (c : Thread nD τ) (csem 0) () (O₁ c) :=
  mayWait_cut c _ _ 1 (by rw [show ((c : Thread nD τ), csem 0) = kcell (c, 0) from rfl, lv_at]; decide) fun _ _ => O₁_pos
theorem mayWait_stage (c : Dev nD) (sm : SemLoc sig) (h : idxOf sm = none) (O : CellTallies nD τ sig Unit) (hO : O = O₀ c ∨ O = 0) :
    (levAts L lv : sProp 𝕄) ⊢ MayWait (c : Thread nD τ) sm () O := by
  rcases hO with rfl | rfl
  · exact mayWait_cut c _ _ 0 (by dsimp only [lv]; rw [h]; exact le_rfl) fun _ _ => O₀_pos
  · rw [MayWait_zero]; iintro -; iempintro

/-! ## The rules of the protocol's steps -/

section Rules
variable (I : Dev nD → Args F) (K : Dev nD × Fin 7 → ℕ)

/-- Every cell's invariant, and that every cell is at its round. -/
def records : sProp 𝕄 :=
  iprop((bigSep Finset.univ fun ck : Dev nD × Fin 7 => cellInv ER (sched I) (K ck) (kcell ck))
    ∗ bigSep Finset.univ fun ck : Dev nD × Fin 7 => reached ER (kcell ck) 0)

instance records_persistent : BI.Persistent (records I K) := by unfold records; infer_instance

theorem inv_at (ck : Dev nD × Fin 7) : records I K ⊢ cellInv ER (sched I) (K ck) (kcell ck) := by
  have h : (bigSep Finset.univ fun ck : Dev nD × Fin 7 => (cellInv ER (sched I) (K ck) (kcell ck) : sProp 𝕄)) ⊢ cellInv ER (sched I) (K ck) (kcell ck) :=
    bigSep_elim (Finset.mem_univ ck)
  unfold records
  iintro ⟨#HI, -⟩
  iapply h
  iexact HI
theorem reached_at (ck : Dev nD × Fin 7) : records I K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records
  iintro ⟨-, #HR⟩
  iapply h
  iexact HR

variable (c : Dev nD)

/-- The signal to the partner's barrier. -/
theorem signal_spec (n : Dev nD) (hn : n = par c) (W : Waits sig Unit) (Q : PUnit → sProp 𝕄) :
    iprop((records I K ∗ owes (c : Thread nD τ) (O₀ c) W ∗ dutyTok ER (kcell (par c, 0)) 0 () ∗ any c crM ∗ any c wukrM ∗ any c wuvrM)
        ∗ (owes (c : Thread nD τ) (O₁ c) W -∗ Q ⟨⟩)) ⊢ WP c (semSignalWord n barS 1#32) Q := by
  subst hn
  iintro ⟨⟨#HR, HO, Ht, Hc, Hk, Hv⟩, HQ⟩
  unfold semSignalWord
  iapply (Rounds.wp_signal Variants.none ER (sched I) (c : Thread nD τ) none (dst := (par c : Thread nD τ)) (κ := K (par c, 0)) (d := ())
      (by rw [show ((par c : Thread nD τ), SemLoc.reg barS) = kcell (par c, 0) from rfl, duties_at]; exact Finset.mem_univ _)
      (amount_at I (par c) 0 ()) () (O₁ c) rfl) $$ [HO Ht Hc Hk Hv]
  · isplitr; · iapply (inv_at I K (par c, 0)); iexact HR
    isplitl [HO]; · iexact HO
    isplitl [Ht]; · iexact Ht
    isplitl
    · rw [show ((par c : Thread nD τ), SemLoc.reg barS) = kcell (par c, 0) from rfl, payload_at]
      unfold pay
      rw [par_par]
      isplitl [Hc]; · iexact Hc
      isplitl [Hk]; · iexact Hk
      iexact Hv
    iapply (reached_at I K (par c, 0)); iexact HR
  iintro HO
  rw [wp_ret]
  imodintro
  iapply HQ
  iexact HO

/-- A wait for a cell's round. -/
theorem wait_spec (k : Fin 7) {w : TpuEff nD τ sig (Elt F) Λ₀ .tc PUnit} {n : ℕ} (hn : n = amt k)
    (hw : ∀ Q : PUnit → sProp 𝕄, wpE (defs₀ (F := F)) Variants.none (c : Thread nD τ) none Set.univ w Q = waitSpec (c : Thread nD τ) Set.univ (csem k) n Q)
    (O : CellTallies nD τ sig Unit) (hO : (levAts L lv : sProp 𝕄) ⊢ MayWait (c : Thread nD τ) (csem k) () O) (W : Waits sig Unit) (Q : PUnit → sProp 𝕄) :
    iprop((records I K ∗ levAts L lv ∗ cred (tallyAt (kcell (c, k)) () (amt k)) ∗ owes (c : Thread nD τ) O W ∗ atPos ER (kcell (c, k)) 0 ∅ 0)
        ∗ ((owes (c : Thread nD τ) O (insert (csem k, ()) W) ∗ atPos ER (kcell (c, k)) 1 ∅ 0 ∗ pay I c k) -∗ Q ⟨⟩)) ⊢ WP c (Prog.lift w) Q := by
  subst hn
  iintro ⟨⟨#HR, #Hlev, Hc, HO, Hat⟩, HQ⟩
  unfold Prog.lift
  iapply (Rounds.wp_wait_rest_token Variants.none ER (sched I) (c : Thread nD τ) none (κ := K (c, k)) hw (Set.mem_univ _) () (O := O) (W := W)
      (R := 0) (m := 0) (T := ∅) (by rw [Nat.zero_add]; exact (expect_at I c k).symm)) $$ [Hc HO Hat]
  · isplitr; · iapply (inv_at I K (c, k)); iexact HR
    isplitl [Hc]; · iexact Hc
    isplitl [HO]; · iexact HO
    isplitr; · iapply hO; iexact Hlev
    iexact Hat
  iintro ⟨HO, Hat, -, Hp⟩
  rw [wp_ret]
  imodintro
  iapply HQ
  isplitl [HO]; · iexact HO
  isplitl [Hat]; · iexact Hat
  iapply (Entails.of_eq (rest_at I c k))
  iexact Hp

/-- The copy of a buffer into the partner's landing buffer. -/
theorem copy_spec {s : Shape} {e : EltTy} (src dst : Memref sig .tc .vmem s e) (X : Vec F s e) (ks kr : Fin 7) {sS sem : SemLoc sig}
    (hs : csem ks = sS) (hr : csem kr = sem) (n : Dev nD) (hn : n = par c) {hsc : dst.view.ref.isScScratch = false}
    {hsrc : src.view.WordExact} {hdst : dst.view.WordExact} {hsem : DmaTarget.Typed .vmem sem (.remote (Dev.tc n : Thread nD τ) dst sS hsc)}
    (hN : dst.view.amount sem = amt kr) (hN' : amt ks = amt kr)
    (hps : pay I c ks = own c src X) (hpr : pay I (par c) kr = own (par c) dst X)
    (O : CellTallies nD τ sig Unit) {O' : CellTallies nD τ sig Unit} (hO : O' = O + tally c kr) (W : Waits sig Unit) (Q : PUnit → sProp 𝕄) :
    iprop((records I K ∗ own c src X ∗ any (par c) dst ∗ owes (c : Thread nD τ) O' W ∗ dutyTok ER (kcell (c, ks)) 0 () ∗ dutyTok ER (kcell (par c, kr)) 0 ())
        ∗ ((cred (tallyAt (kcell (c, ks)) () (amt ks)) ∗ owes (c : Thread nD τ) O W) -∗ Q ⟨⟩))
      ⊢ WP c (Prog.lift (.enqueueDma src (.remote (Dev.tc n : Thread nD τ) dst sS hsc) sem hsrc hdst hsem)) Q := by
  subst hn hs hr
  unfold any own owns
  iintro ⟨⟨#HR, ⟨%fs, %hfs, Hs⟩, ⟨%Y, %fd, %hfd, Hd⟩, HO, Hts, Htr⟩, HQ⟩
  unfold Prog.lift
  iapply (Rounds.wp_send_pointsTo Variants.none ER (sched I) (c : Thread nD τ) none (κ₁ := K (c, ks)) (κ₂ := K (par c, kr))
      (r₁ := 0) (r₂ := 0) (d₁ := ()) (d₂ := ()) (fs := fs) (fd := fd) (q := fullShare)
      (by rw [show ((c : Thread nD τ), csem ks) = kcell (c, ks) from rfl, duties_at]; exact Finset.mem_univ _)
      (by rw [show ((par c : Thread nD τ), csem kr) = kcell (par c, kr) from rfl, duties_at]; exact Finset.mem_univ _)
      () () (amt kr) hN ((amount_at I c ks ()).trans hN') (amount_at I (par c) kr ()) O hO (W := W)
      (by
        rw [show ((c : Thread nD τ), csem ks) = kcell (c, ks) from rfl, payload_at, hps, ← hfs]
        exact owns_intro _ _ _ _)
      (by
        rw [show ((par c : Thread nD τ), csem kr) = kcell (par c, kr) from rfl, payload_at, hpr, ← hfs]
        refine (owns_intro _ _ _ _).trans (Entails.of_eq ?_)
        rw [View.read_write_univ])) $$ [Hs Hd HO Hts Htr]
  · isplitr; · iapply (inv_at I K (c, ks)); iexact HR
    isplitr; · iapply (inv_at I K (par c, kr)); iexact HR
    isplitl [Hs]; · iexact Hs
    isplitl [Hd]; · iexact Hd
    isplitl [HO]; · iexact HO
    isplitl [Hts]; · iexact Hts
    isplitr; · iapply (reached_at I K (c, ks)); iexact HR
    isplitl [Htr]; · iexact Htr
    iapply (reached_at I K (par c, kr)); iexact HR
  iintro ⟨Hc, HO⟩
  rw [wp_ret]
  imodintro
  iapply HQ
  rw [hN']
  isplitl [Hc]; · iexact Hc
  iexact HO

/-- A cell whose round is over gives its counter, at zero, back. -/
theorem close_at (k : Fin 7) : iprop(records I K ∗ atPos ER (kcell (c, k)) 1 ∅ 0) ⊢ |={Set.univ}=> (semVal (kcell (c, k)) 0 : sProp 𝕄) := by
  iintro ⟨#HR, Hat⟩
  iapply (Rounds.cell_close ER (sched I) (Set.mem_univ (K (c, k))) (fun h => h) (R := 1) (duties_later I (kcell (c, k))))
  isplitr; · iapply (inv_at I K (c, k)); iexact HR
  iexact Hat

end Rules

end Cert.KernelIdeal.Mla

end
-- ==== Proof.KernelIdeal.Body.lean ====
/- The body, from what the launch deals a device to the result in the output's staging buffer. -/
module

public import proofs.«01_k».proof.Proof.KernelIdeal.Proto

@[expose] public section

noncomputable section

namespace Cert.KernelIdeal.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (I : Dev nD → Args F) (K : Dev nD × Fin 7 → ℕ) (c : Dev nD)

/-- The tokens of the duties device `c` pays: its own send cells', its partner's barrier and receive cells'. -/
def payToks : sProp 𝕄 :=
  iprop(dutyTok ER (kcell (par c, 0)) 0 () ∗ dutyTok ER (kcell (c, 1)) 0 () ∗ dutyTok ER (kcell (c, 2)) 0 () ∗ dutyTok ER (kcell (c, 3)) 0 ()
    ∗ dutyTok ER (kcell (par c, 4)) 0 () ∗ dutyTok ER (kcell (par c, 5)) 0 () ∗ dutyTok ER (kcell (par c, 6)) 0 ())

/-- Device `c`'s positions, at round `r` of each of its cells. -/
def positions (r : ℕ) : sProp 𝕄 :=
  iprop(atPos ER (kcell (c, 0)) r ∅ 0 ∗ atPos ER (kcell (c, 1)) r ∅ 0 ∗ atPos ER (kcell (c, 2)) r ∅ 0 ∗ atPos ER (kcell (c, 3)) r ∅ 0
    ∗ atPos ER (kcell (c, 4)) r ∅ 0 ∗ atPos ER (kcell (c, 5)) r ∅ 0 ∗ atPos ER (kcell (c, 6)) r ∅ 0)

def creds : sProp 𝕄 :=
  iprop(cred (tallyAt (kcell (c, 0)) () (amt 0)) ∗ cred (tallyAt (kcell (c, 4)) () (amt 4)) ∗ cred (tallyAt (kcell (c, 5)) () (amt 5))
    ∗ cred (tallyAt (kcell (c, 6)) () (amt 6)))

def zeros : sProp 𝕄 :=
  iprop(semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0)

/-- The scratch buffers. -/
def scratch : sProp 𝕄 :=
  iprop(any c x16M ∗ any c csM ∗ any c crM ∗ any c wukrM ∗ any c wuvrM ∗ any c qM ∗ any c qrM ∗ any c krM ∗ any c kM ∗ any c vM ∗ any c oM)

/-- The staging buffers of the arguments. -/
def stages (A : Args F) : sProp 𝕄 :=
  iprop(own c xM A.x ∗ own c wdkvM A.wdkv ∗ own c wukM A.wuk ∗ own c wuvM A.wuv ∗ own c wqM A.wq ∗ own c wqrM A.wqr ∗ own c wkrM A.wkr ∗ own c woM A.wo)

theorem device_spec (Q : Dev nD → sProp 𝕄) : Q c ⊢ WP c (Prog.lift .deviceId) Q := by
  iintro H
  unfold WP Prog.lift
  rw [wp_deviceId, wp_ret]
  imodintro
  iexact H

theorem credit1 : (wukM).view.dmaCredit = amt 1 := rfl
theorem credit4 : (wukrM).view.dmaCredit = amt 4 := rfl
theorem credit2 : (wuvM).view.dmaCredit = amt 2 := rfl
theorem credit5 : (wuvrM).view.dmaCredit = amt 5 := rfl
theorem credit3 : (csM).view.dmaCredit = amt 3 := rfl
theorem credit6 : (crM).view.dmaCredit = amt 6 := rfl

/-- The copy of each `k : Fin 3`'s buffer is waited for at its send and at its receive cell. -/
theorem waits_spec (W : Waits sig Unit) (Q : PUnit → sProp 𝕄) :
    iprop((records I K ∗ levAts L lv ∗ owes (c : Thread nD τ) 0 W
          ∗ (cred (tallyAt (kcell (c, 1)) () (amt 1)) ∗ cred (tallyAt (kcell (c, 2)) () (amt 2)) ∗ cred (tallyAt (kcell (c, 3)) () (amt 3)))
          ∗ (cred (tallyAt (kcell (c, 4)) () (amt 4)) ∗ cred (tallyAt (kcell (c, 5)) () (amt 5)) ∗ cred (tallyAt (kcell (c, 6)) () (amt 6)))
          ∗ atPos ER (kcell (c, 0)) 1 ∅ 0 ∗ atPos ER (kcell (c, 1)) 0 ∅ 0 ∗ atPos ER (kcell (c, 2)) 0 ∅ 0 ∗ atPos ER (kcell (c, 3)) 0 ∅ 0
          ∗ atPos ER (kcell (c, 4)) 0 ∅ 0 ∗ atPos ER (kcell (c, 5)) 0 ∅ 0 ∗ atPos ER (kcell (c, 6)) 0 ∅ 0)
        ∗ (((∃ W', owes (c : Thread nD τ) 0 W') ∗ positions c 1
            ∗ pay I c 1 ∗ pay I c 2 ∗ pay I c 3 ∗ pay I c 4 ∗ pay I c 5 ∗ pay I c 6) -∗ Q ⟨⟩))
      ⊢ WP c waitsProg Q := by
  have h0 : ∀ k, (levAts L lv : sProp 𝕄) ⊢ MayWait (c : Thread nD τ) (csem k) () 0 := fun k => by rw [MayWait_zero]; iintro -; iempintro
  iintro ⟨⟨#HR, #Hlev, HO, ⟨Hc1, Hc2, Hc3⟩, ⟨Hc4, Hc5, Hc6⟩, Ha0, Ha1, Ha2, Ha3, Ha4, Ha5, Ha6⟩, HQ⟩
  unfold waitsProg
  iapply (seq (wait_spec I K c 1 (n := (wukM).view.dmaCredit) credit1 (wpE_waitDma2_eq Variants.none (c : Thread nD τ) none Set.univ) 0 (h0 1) W)) $$ [Hc1 HO Ha1]
  · isplitr; · iexact HR
    isplitr; · iexact Hlev
    isplitl [Hc1]; · iexact Hc1
    isplitl [HO]; · iexact HO
    iexact Ha1
  iintro ⟨HO, Ha1, Hp1⟩
  iapply (seq (wait_spec I K c 4 (n := (wukrM).view.dmaCredit) credit4 (wpE_waitDma2_eq Variants.none (c : Thread nD τ) none Set.univ) 0 (h0 4) _)) $$ [Hc4 HO Ha4]
  · isplitr; · iexact HR
    isplitr; · iexact Hlev
    isplitl [Hc4]; · iexact Hc4
    isplitl [HO]; · iexact HO
    iexact Ha4
  iintro ⟨HO, Ha4, Hp4⟩
  iapply (seq (wait_spec I K c 2 (n := (wuvM).view.dmaCredit) credit2 (wpE_waitDma2_eq Variants.none (c : Thread nD τ) none Set.univ) 0 (h0 2) _)) $$ [Hc2 HO Ha2]
  · isplitr; · iexact HR
    isplitr; · iexact Hlev
    isplitl [Hc2]; · iexact Hc2
    isplitl [HO]; · iexact HO
    iexact Ha2
  iintro ⟨HO, Ha2, Hp2⟩
  iapply (seq (wait_spec I K c 5 (n := (wuvrM).view.dmaCredit) credit5 (wpE_waitDma2_eq Variants.none (c : Thread nD τ) none Set.univ) 0 (h0 5) _)) $$ [Hc5 HO Ha5]
  · isplitr; · iexact HR
    isplitr; · iexact Hlev
    isplitl [Hc5]; · iexact Hc5
    isplitl [HO]; · iexact HO
    iexact Ha5
  iintro ⟨HO, Ha5, Hp5⟩
  iapply (seq (wait_spec I K c 3 (n := (csM).view.dmaCredit) credit3 (wpE_waitDma2_eq Variants.none (c : Thread nD τ) none Set.univ) 0 (h0 3) _)) $$ [Hc3 HO Ha3]
  · isplitr; · iexact HR
    isplitr; · iexact Hlev
    isplitl [Hc3]; · iexact Hc3
    isplitl [HO]; · iexact HO
    iexact Ha3
  iintro ⟨HO, Ha3, Hp3⟩
  iapply (wait_spec I K c 6 (n := (crM).view.dmaCredit) credit6 (wpE_waitDma2_eq Variants.none (c : Thread nD τ) none Set.univ) 0 (h0 6) _)
  isplitl [Hc6 HO Ha6]
  · isplitr; · iexact HR
    isplitr; · iexact Hlev
    isplitl [Hc6]; · iexact Hc6
    isplitl [HO]; · iexact HO
    iexact Ha6
  iintro ⟨HO, Ha6, Hp6⟩
  iapply HQ
  isplitl [HO]; · iexists _; iexact HO
  isplitl [Ha0 Ha1 Ha2 Ha3 Ha4 Ha5 Ha6]
  · unfold positions
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  isplitl [Hp1]; · iexact Hp1
  isplitl [Hp2]; · iexact Hp2
  isplitl [Hp3]; · iexact Hp3
  isplitl [Hp4]; · iexact Hp4
  isplitl [Hp5]; · iexact Hp5
  iexact Hp6

/-- The cells closed. -/
theorem close_all : iprop(records I K ∗ positions c 1) ⊢ |={Set.univ}=> zeros (F := F) c := by
  unfold positions zeros
  iintro ⟨#HR, Ha0, Ha1, Ha2, Ha3, Ha4, Ha5, Ha6⟩
  imod (close_at I K c 0) $$ [Ha0] with Hz0
  · isplitr; · iexact HR
    iexact Ha0
  imod (close_at I K c 1) $$ [Ha1] with Hz1
  · isplitr; · iexact HR
    iexact Ha1
  imod (close_at I K c 2) $$ [Ha2] with Hz2
  · isplitr; · iexact HR
    iexact Ha2
  imod (close_at I K c 3) $$ [Ha3] with Hz3
  · isplitr; · iexact HR
    iexact Ha3
  imod (close_at I K c 4) $$ [Ha4] with Hz4
  · isplitr; · iexact HR
    iexact Ha4
  imod (close_at I K c 5) $$ [Ha5] with Hz5
  · isplitr; · iexact HR
    iexact Ha5
  imod (close_at I K c 6) $$ [Ha6] with Hz6
  · isplitr; · iexact HR
    iexact Ha6
  imodintro
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  iexact Hz6

/-- The body's rule. -/
theorem body_spec (W : Waits sig Unit) (Q : PUnit → sProp 𝕄) :
    iprop((records I K ∗ levAts L lv ∗ owes (c : Thread nD τ) (O₀ c) W ∗ positions c 0 ∗ payToks c ∗ creds c ∗ stages c (I c) ∗ any c outM ∗ scratch c)
        ∗ (((∃ W', owes (c : Thread nD τ) 0 W') ∗ zeros c ∗ stages c (I c) ∗ own c outM (outV (I c) (I (par c))) ∗ scratch c) -∗ Q ⟨⟩))
      ⊢ WP c bodyProg Q := by
  unfold positions payToks creds stages scratch
  iintro ⟨⟨#HR, #Hlev, HO, ⟨Ha0, Ha1, Ha2, Ha3, Ha4, Ha5, Ha6⟩, ⟨Ht0, Ht1, Ht2, Ht3, Ht4, Ht5, Ht6⟩, ⟨Hc0, Hc4, Hc5, Hc6⟩,
    ⟨Hx, Hwdkv, Hwuk, Hwuv, Hwq, Hwqr, Hwkr, Hwo⟩, Hout, ⟨%X16, Hx16⟩, ⟨%Xcs, Hcs⟩, Hcr, Hwukr, Hwuvr, ⟨%Xq, Hq⟩, ⟨%Xqr, Hqr⟩, ⟨%Xkr, Hkr⟩, Hk, Hv, Ho⟩, HQ⟩
  unfold bodyProg
  -- the handshake
  iapply (seq (A := iprop(emp)) (B := iprop(emp)) (v := c) (fun Q' => by
    iintro ⟨-, H⟩
    iapply (device_spec c Q')
    iapply H
    iempintro)) $$ []
  · iempintro
  iintro -
  iapply (seq (signal_spec I K c _ (dev1_eq c) W)) $$ [HO Ht0 Hcr Hwukr Hwuvr]
  · isplitr; · iexact HR
    isplitl [HO]; · iexact HO
    isplitl [Ht0]; · iexact Ht0
    isplitl [Hcr]; · iexact Hcr
    isplitl [Hwukr]; · iexact Hwukr
    iexact Hwuvr
  iintro HO
  iapply (seq (wait_spec I K c 0 (n := ((1#32 : BitVec 32).toInt).toNat) (by decide) (wpE_semWait_eq Variants.none (c : Thread nD τ) none Set.univ) (O₁ c) (mayWait_bar c) W)) $$ [Hc0 HO Ha0]
  · isplitr; · iexact HR
    isplitr; · iexact Hlev
    isplitl [Hc0]; · iexact Hc0
    isplitl [HO]; · iexact HO
    iexact Ha0
  iintro ⟨HO, Ha0, Hp⟩
  ihave Hp' := (Entails.of_eq (show pay I c 0 = iprop(any (par c) crM ∗ any (par c) wukrM ∗ any (par c) wuvrM) from rfl)) $$ Hp
  icases Hp' with ⟨Hcr, Hwukr, Hwuvr⟩
  -- the weights' copies
  unfold O₁
  iapply (seq (copy_spec I K c wukM wukrM (I c).wuk 1 4 rfl rfl _ (dev2_eq c) rfl rfl rfl (by unfold pay; rw [par_par]) (tally c 6 + tally c 5) rfl _)) $$ [Hwuk Hwukr HO Ht1 Ht4]
  · isplitr; · iexact HR
    isplitl [Hwuk]; · iexact Hwuk
    isplitl [Hwukr]; · iexact Hwukr
    isplitl [HO]; · iexact HO
    isplitl [Ht1]; · iexact Ht1
    iexact Ht4
  iintro ⟨Hc1, HO⟩
  iapply (seq (copy_spec I K c wuvM wuvrM (I c).wuv 2 5 rfl rfl _ (dev3_eq c) rfl rfl rfl (by unfold pay; rw [par_par]) (tally c 6) rfl _)) $$ [Hwuv Hwuvr HO Ht2 Ht5]
  · isplitr; · iexact HR
    isplitl [Hwuv]; · iexact Hwuv
    isplitl [Hwuvr]; · iexact Hwuvr
    isplitl [HO]; · iexact HO
    isplitl [Ht2]; · iexact Ht2
    iexact Ht5
  iintro ⟨Hc2, HO⟩
  -- the latent
  iapply (seq (castX_spec c (I c) 0 _ X16)) $$ [Hx Hx16]
  · isplitl [Hx]; · iexact Hx
    iexact Hx16
  iintro ⟨Hx, Hx16⟩
  iapply (seq (castX_spec c (I c) 1 _ _)) $$ [Hx Hx16]
  · isplitl [Hx]; · iexact Hx
    iexact Hx16
  iintro ⟨Hx, Hx16⟩
  rw [two_pastes X16 (x16B (I c))]
  iapply (seq (latent_spec c (I c) 0 _ Xcs)) $$ [Hx16 Hwdkv Hcs]
  · isplitl [Hx16]; · iexact Hx16
    isplitl [Hwdkv]; · iexact Hwdkv
    iexact Hcs
  iintro ⟨Hx16, Hwdkv, Hcs⟩
  iapply (seq (latent_spec c (I c) 1 _ _)) $$ [Hx16 Hwdkv Hcs]
  · isplitl [Hx16]; · iexact Hx16
    isplitl [Hwdkv]; · iexact Hwdkv
    iexact Hcs
  iintro ⟨Hx16, Hwdkv, Hcs⟩
  rw [two_pastes Xcs (csB (I c))]
  -- its copy
  iapply (seq (copy_spec I K c csM crM (two (csB (I c))) 3 6 rfl rfl _ (dev4_eq c) rfl rfl rfl (by unfold pay; rw [par_par]) 0 (zero_add _).symm _)) $$ [Hcs Hcr HO Ht3 Ht6]
  · isplitr; · iexact HR
    isplitl [Hcs]; · iexact Hcs
    isplitl [Hcr]; · iexact Hcr
    isplitl [HO]; · iexact HO
    isplitl [Ht3]; · iexact Ht3
    iexact Ht6
  iintro ⟨Hc3, HO⟩
  -- the queries
  iapply (seq (mat_spec c wqM (I c).wq h_S1024x1024)) $$ [Hwq]
  · iexact Hwq
  iintro Hwq
  iapply (seq (mat_spec c wqrM (I c).wqr h_S1024x512)) $$ [Hwqr]
  · iexact Hwqr
  iintro Hwqr
  iapply (seq (mat_spec c wkrM (I c).wkr h_S1024x32)) $$ [Hwkr]
  · iexact Hwkr
  iintro Hwkr
  iapply (seq (queries_spec c (I c) 0 _ Xq Xqr Xkr)) $$ [Hx16 Hq Hqr Hkr]
  · isplitl [Hx16]; · iexact Hx16
    isplitl [Hq]; · iexact Hq
    isplitl [Hqr]; · iexact Hqr
    iexact Hkr
  iintro ⟨Hx16, Hq, Hqr, Hkr⟩
  iapply (seq (queries_spec c (I c) 1 _ _ _ _)) $$ [Hx16 Hq Hqr Hkr]
  · isplitl [Hx16]; · iexact Hx16
    isplitl [Hq]; · iexact Hq
    isplitl [Hqr]; · iexact Hqr
    iexact Hkr
  iintro ⟨Hx16, Hq, Hqr, Hkr⟩
  rw [two_pastes Xq (qB (I c)), two_pastes Xqr (qrB (I c)), two_pastes Xkr (krB (I c))]
  -- the waits
  iapply (seq (waits_spec I K c _)) $$ [HO Hc1 Hc2 Hc3 Hc4 Hc5 Hc6 Ha0 Ha1 Ha2 Ha3 Ha4 Ha5 Ha6]
  · isplitr; · iexact HR
    isplitr; · iexact Hlev
    isplitl [HO]; · iexact HO
    isplitl [Hc1 Hc2 Hc3]
    · isplitl [Hc1]; · iexact Hc1
      isplitl [Hc2]; · iexact Hc2
      iexact Hc3
    isplitl [Hc4 Hc5 Hc6]
    · isplitl [Hc4]; · iexact Hc4
      isplitl [Hc5]; · iexact Hc5
      iexact Hc6
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  iintro ⟨HO, Hpos, Hwuk, Hwuv, Hcs, Hwukr, Hwuvr, Hcr⟩
  imod (close_all I K c) $$ [Hpos] with Hz
  · isplitr; · iexact HR
    iexact Hpos
  -- the attention
  iapply (tail_spec c (I c) (I (par c)))
  isplitl [Hwuk Hwuv Hwukr Hwuvr Hcs Hcr Hq Hqr Hkr Hwo Hk Hv Ho Hout]
  · unfold tailIns pay
    isplitr [Hk Hv Ho Hout]
    · isplitl [Hwuk]; · iexact Hwuk
      isplitl [Hwuv]; · iexact Hwuv
      isplitl [Hwukr]; · iexact Hwukr
      isplitl [Hwuvr]; · iexact Hwuvr
      isplitl [Hcs]; · iexact Hcs
      isplitl [Hcr]; · iexact Hcr
      isplitl [Hq]; · iexact Hq
      isplitl [Hqr]; · iexact Hqr
      isplitl [Hkr]; · iexact Hkr
      iexact Hwo
    isplitl [Hk]; · iexact Hk
    isplitl [Hv]; · iexact Hv
    isplitl [Ho]; · iexact Ho
    iexact Hout
  unfold tailIns
  iintro ⟨⟨Hwuk, Hwuv, Hwukr, Hwuvr, Hcs, Hcr, Hq, Hqr, Hkr, Hwo⟩, Hk, Hv, Ho, Hout⟩
  iapply HQ
  isplitl [HO]; · iexact HO
  isplitl [Hz]; · iexact Hz
  isplitl [Hx Hwdkv Hwuk Hwuv Hwq Hwqr Hwkr Hwo]
  · isplitl [Hx]; · iexact Hx
    isplitl [Hwdkv]; · iexact Hwdkv
    isplitl [Hwuk]; · iexact Hwuk
    isplitl [Hwuv]; · iexact Hwuv
    isplitl [Hwq]; · iexact Hwq
    isplitl [Hwqr]; · iexact Hwqr
    isplitl [Hwkr]; · iexact Hwkr
    iexact Hwo
  isplitl [Hout]; · iexact Hout
  isplitl [Hx16]; · iexists _; iexact Hx16
  isplitl [Hcs]; · iexists _; iexact Hcs
  isplitl [Hcr]; · iexists _; iexact Hcr
  isplitl [Hwukr]; · iexists _; iexact Hwukr
  isplitl [Hwuvr]; · iexists _; iexact Hwuvr
  isplitl [Hq]; · iexists _; iexact Hq
  isplitl [Hqr]; · iexists _; iexact Hqr
  isplitl [Hkr]; · iexists _; iexact Hkr
  isplitl [Hk]; · iexact Hk
  isplitl [Hv]; · iexact Hv
  iexact Ho

end Body

end Cert.KernelIdeal.Mla

end
-- ==== Proof.KernelIdeal.Launch.lean ====
/- The launch: the body at the one grid point, the handshake's ghost state dealt to the devices, and the run of @main
   with each array's contents at the end. -/
module

public import proofs.«01_k».proof.Proof.KernelIdeal.Body
public import proofs.«01_k».proof.Proof.Gen.KernelIdeal.Points
public import Idealize.ShloMosaic.Lib.Pipeline.CollectiveSegs
public import Idealize.ShloMosaic.Lib.Pipeline.Value

@[expose] public section

noncomputable section

namespace Cert.KernelIdeal.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Each device's arguments, as its windows' one block stages them. -/
def arg (c : Dev nD) : Args F where
  x := (win0_0.blk (0 : Fin 1)).view.read (Elt F) (m ((c : Thread nD τ).loc main_arg0))
  wdkv := (win0_1.blk (0 : Fin 1)).view.read (Elt F) (m ((c : Thread nD τ).loc main_arg1))
  wuk := (win0_2.blk (0 : Fin 1)).view.read (Elt F) (m ((c : Thread nD τ).loc main_arg2))
  wuv := (win0_3.blk (0 : Fin 1)).view.read (Elt F) (m ((c : Thread nD τ).loc main_arg3))
  wq := (win0_4.blk (0 : Fin 1)).view.read (Elt F) (m ((c : Thread nD τ).loc main_arg4))
  wqr := (win0_5.blk (0 : Fin 1)).view.read (Elt F) (m ((c : Thread nD τ).loc main_arg5))
  wkr := (win0_6.blk (0 : Fin 1)).view.read (Elt F) (m ((c : Thread nD τ).loc main_arg6))
  wo := (win0_7.blk (0 : Fin 1)).view.read (Elt F) (m ((c : Thread nD τ).loc main_arg7))

/-! ## The proof data -/

def linear (c : Dev nD) : sProp 𝕄 := iprop(positions c 0 ∗ payToks c)
def start (c : Dev nD) : sProp 𝕄 := iprop((∃ K, records (arg m) K ∗ linear c) ∗ creds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (arg m c).x
    | ⟨1, _⟩ => (arg m c).wdkv
    | ⟨2, _⟩ => (arg m c).wuk
    | ⟨3, _⟩ => (arg m c).wuv
    | ⟨4, _⟩ => (arg m c).wq
    | ⟨5, _⟩ => (arg m c).wqr
    | ⟨6, _⟩ => (arg m c).wkr
    | ⟨7, _⟩ => (arg m c).wo
    | ⟨8, _⟩ => outV (arg m c) (arg m (par c))
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

def t₀ : Fin cfg0.N := ⟨0, by rw [show cfg0.N = 1 from by decide]; decide⟩
theorem fin_N (t : Fin cfg0.N) : t = t₀ := by
  obtain ⟨t, ht⟩ := t
  have : cfg0.N = 1 := by decide
  exact Fin.ext (by simp only [t₀]; omega)

theorem bigSep_W (Φ : Fin cfg0.W → sProp 𝕄) :
    bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_W0 Φ

section Obligation
variable (c : Dev nD)

theorem before0 (d) : (dats m ρ 0 c).before (0 : Fin 9) t₀ d = (arg m c).x := by unfold Dat.before; rw [if_pos (fetch0_0 t₀)]; rfl
theorem before1 (d) : (dats m ρ 0 c).before (1 : Fin 9) t₀ d = (arg m c).wdkv := by unfold Dat.before; rw [if_pos (fetch0_1 t₀)]; rfl
theorem before2 (d) : (dats m ρ 0 c).before (2 : Fin 9) t₀ d = (arg m c).wuk := by unfold Dat.before; rw [if_pos (fetch0_2 t₀)]; rfl
theorem before3 (d) : (dats m ρ 0 c).before (3 : Fin 9) t₀ d = (arg m c).wuv := by unfold Dat.before; rw [if_pos (fetch0_3 t₀)]; rfl
theorem before4 (d) : (dats m ρ 0 c).before (4 : Fin 9) t₀ d = (arg m c).wq := by unfold Dat.before; rw [if_pos (fetch0_4 t₀)]; rfl
theorem before5 (d) : (dats m ρ 0 c).before (5 : Fin 9) t₀ d = (arg m c).wqr := by unfold Dat.before; rw [if_pos (fetch0_5 t₀)]; rfl
theorem before6 (d) : (dats m ρ 0 c).before (6 : Fin 9) t₀ d = (arg m c).wkr := by unfold Dat.before; rw [if_pos (fetch0_6 t₀)]; rfl
theorem before7 (d) : (dats m ρ 0 c).before (7 : Fin 9) t₀ d = (arg m c).wo := by unfold Dat.before; rw [if_pos (fetch0_7 t₀)]; rfl

def bodyPre : sProp 𝕄 :=
  iprop((start m c ∗ scratch c) ∗ (dats m ρ 0 c).owesAt () t₀.castSucc
    ∗ (∃ d, own c xM ((dats m ρ 0 c).before (0 : Fin 9) t₀ d)) ∗ (∃ d, own c wdkvM ((dats m ρ 0 c).before (1 : Fin 9) t₀ d))
    ∗ (∃ d, own c wukM ((dats m ρ 0 c).before (2 : Fin 9) t₀ d)) ∗ (∃ d, own c wuvM ((dats m ρ 0 c).before (3 : Fin 9) t₀ d))
    ∗ (∃ d, own c wqM ((dats m ρ 0 c).before (4 : Fin 9) t₀ d)) ∗ (∃ d, own c wqrM ((dats m ρ 0 c).before (5 : Fin 9) t₀ d))
    ∗ (∃ d, own c wkrM ((dats m ρ 0 c).before (6 : Fin 9) t₀ d)) ∗ (∃ d, own c woM ((dats m ρ 0 c).before (7 : Fin 9) t₀ d))
    ∗ (∃ d, own c outM ((dats m ρ 0 c).before (8 : Fin 9) t₀ d)))
def bodyPost : sProp 𝕄 :=
  iprop((scratch c ∗ zeros c) ∗ (dats m ρ 0 c).owesAt () t₀.succ
    ∗ own c xM (arg m c).x ∗ own c wdkvM (arg m c).wdkv ∗ own c wukM (arg m c).wuk ∗ own c wuvM (arg m c).wuv ∗ own c wqM (arg m c).wq
    ∗ own c wqrM (arg m c).wqr ∗ own c wkrM (arg m c).wkr ∗ own c woM (arg m c).wo ∗ own c outM (outV (arg m c) (arg m (par c))))

theorem body_run : bodyPre m ρ c ⊢ WP c bodyProg (fun _ => bodyPost m ρ c) := by
  unfold bodyPre bodyPost start linear
  simp only [before0, before1, before2, before3, before4, before5, before6, before7]
  unfold Dat.owesAt Pipeline.owesWithin
  rw [show (dats m ρ 0 c).owed t₀.castSucc = O₀ c from rfl, show (dats m ρ 0 c).owed t₀.succ = 0 from rfl]
  iintro ⟨⟨⟨⟨%K, #HR, Hpos, Htok⟩, Hcr, #Hlev⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_spec (arg m) K c W)
  isplitl
  · isplitr; · iexact HR
    isplitr; · iexact Hlev
    isplitl [HO]; · iexact HO
    isplitl [Hpos]; · iexact Hpos
    isplitl [Htok]; · iexact Htok
    isplitl [Hcr]; · iexact Hcr
    isplitr [H8 Hscr]
    · unfold stages
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    iexact Hscr
  unfold stages
  iintro ⟨⟨%W', HO⟩, Hz, ⟨H0, H1, H2, H3, H4, H5, H6, H7⟩, H8, Hscr⟩
  isplitl [Hscr Hz]
  · isplitl [Hscr]; · iexact Hscr
    iexact Hz
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Obligation

set_option maxRecDepth 40000 in
theorem body_obligation (c : Dev nD) : BodyObligation (dats (F := F) m ρ 0 c) (defs₀ (F := F)) Variants.none () Set.univ := fun t => by
  rw [fin_N t]
  rw [bigSep_W, bigSep_W]
  have h := body_run m ρ c
  rw [← body_eq] at h
  unfold bodyPre bodyPost at h
  exact h

/-! ## The handshake's ghost state -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := congrArg (fun g : GSem nD τ sig => g.1.1) h
  subst h1
  exact Prod.ext rfl (csem_injective (congrArg Prod.snd h : csem k = csem k'))
def meshCells : Finset (GSem nD τ sig) := Finset.univ.map ⟨kcell, kcell_injective⟩

abbrev tokOf (ck : Dev nD × Fin 7) : GSem nD τ sig × ℕ × Unit := (kcell ck, 0, ())
theorem tokOf_injective : Function.Injective tokOf := fun a b h => kcell_injective (congrArg Prod.fst h)
def meshToks : Finset (GSem nD τ sig × ℕ × Unit) := Finset.univ.map ⟨tokOf, tokOf_injective⟩

def u₀ : UU := (initOf (Pipeline.cells cfgs cellOf_inj) (Pipeline.launchToks cfgs cellOf_inj), initOf meshCells meshToks)

/-- The tokens of a device's own cells, its positions, and the marks of its rounds. -/
def toks (c : Dev nD) : sProp 𝕄 := bigSep Finset.univ fun k : Fin 7 => dutyTok ER (kcell (c, k)) 0 ()
def marks (c : Dev nD) : sProp 𝕄 := bigSep Finset.univ fun k : Fin 7 => iprop(atPos ER (kcell (c, k)) 0 ∅ 0 ∗ reached ER (kcell (c, k)) 0)

def G (c : Dev nD) : sProp 𝕄 :=
  iprop((bigSep Finset.univ fun k : Fin 7 => roundState ER (sched (arg m)) (kcell (c, k)) 0) ∗ marks c ∗ toks c)
def G' (c : Dev nD) : sProp 𝕄 := iprop(∃ K, records (arg m) K ∗ linear c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 7 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks toks; rw [bigSep_map, bigSep_univ_prod]; rfl
  iintro HX
  imod (Rounds.fund ER (sched (arg m)) meshCells meshToks) $$ HX with ⟨Hst, Hr, Hat, Htok⟩
  imodintro
  ihave Hst' := (Entails.of_eq (hX fun g => roundState ER (sched (arg m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
theorem unscopedSems0_eq (c : Dev nD) : (unscopedSems0 c : sProp 𝕄) = semVal (kcell (c, 0)) 0 := by
  unfold unscopedSems0; rw [bigSep_eq_bigSepL_of_eq [csem 0] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (arg m)) κ (kcell (c, k)))) ∗ marks c ∗ toks c) := by
  have hv : iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
    rw [ownSems0_eq, unscopedSems0_eq, bigSep_fin7]
    iintro ⟨H, HB⟩
    isplitl [HB]; · iexact HB
    iexact H
  have ha : iprop((bigSep Finset.univ fun k : Fin 7 => semVal (kcell (c, k)) 0) ∗ bigSep Finset.univ fun k : Fin 7 => roundState ER (sched (arg m)) (kcell (c, k)) 0)
      ⊢ (|={Set.univ}=> bigSep Finset.univ fun k => iprop(∃ κ : ℕ, cellInv ER (sched (arg m)) κ (kcell (c, k))) : sProp 𝕄) := by
    rw [← bigSep_sep']
    exact (bigSep_mono fun k _ => (Rounds.body_intro ER (sched (arg m)) (kcell (c, k))).trans inv_alloc).trans (bigSep_fupd _ _)
  unfold G
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-- The tokens of the barrier and the receive cells change sides. -/
theorem toks_across : (bigSep Finset.univ fun c : Dev nD => (toks c : sProp 𝕄)) ⊢ bigSep Finset.univ fun c : Dev nD => payToks c := by
  unfold toks payToks
  simp only [bigSep_fin7, bigSep_sep']
  have e (k : Fin 7) : (bigSep Finset.univ fun c : Dev nD => (dutyTok ER (kcell (c, k)) 0 () : sProp 𝕄))
      ⊢ bigSep Finset.univ fun c : Dev nD => dutyTok ER (kcell (par c, k)) 0 () :=
    Entails.of_eq (bigSep_univ_equiv swap (fun c : Dev nD => (dutyTok ER (kcell (c, k)) 0 () : sProp 𝕄)))
  iintro ⟨H0, H1, H2, H3, H4, H5, H6⟩
  isplitl [H0]; · iapply (e 0); iexact H0
  isplitl [H1]; · iexact H1
  isplitl [H2]; · iexact H2
  isplitl [H3]; · iexact H3
  isplitl [H4]; · iapply (e 4); iexact H4
  isplitl [H5]; · iapply (e 5); iexact H5
  iapply (e 6); iexact H6

theorem regroup :
    (bigSep Finset.univ fun c : Dev nD => iprop((bigSep Finset.univ fun k => iprop(∃ κ : ℕ, cellInv ER (sched (arg m)) κ (kcell (c, k)))) ∗ marks c ∗ toks c) : sProp 𝕄)
      ⊢ bigSep Finset.univ (G' m) := by
  unfold marks
  rw [bigSep_sep', bigSep_sep', ← bigSep_univ_prod (fun ck : Dev nD × Fin 7 => iprop(∃ κ : ℕ, cellInv ER (sched (arg m)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched (arg m)) κ (kcell ck) : sProp 𝕄))) $$ HI
  icases HK with ⟨%K, #HI⟩
  ihave Htk := (toks_across (F := F)) $$ Htok
  have hlin : iprop((bigSep Finset.univ fun c : Dev nD => bigSep Finset.univ fun k : Fin 7 => (atPos ER (kcell (c, k)) 0 ∅ 0 : sProp 𝕄)) ∗ bigSep Finset.univ fun c : Dev nD => payToks c)
      ⊢ bigSep Finset.univ fun c : Dev nD => linear c := by
    rw [← bigSep_sep']
    have h (c : Dev nD) : iprop((bigSep Finset.univ fun k : Fin 7 => (atPos ER (kcell (c, k)) 0 ∅ 0 : sProp 𝕄)) ∗ payToks c) ⊢ linear c := by
      unfold linear positions
      rw [bigSep_fin7]
    exact bigSep_mono fun c _ => h c
  have hg : iprop(records (arg m) K ∗ bigSep Finset.univ fun c : Dev nD => linear c) ⊢ bigSep Finset.univ (G' m) := by
    refine (sep_mono_left (BI.bigSep_of_persistent (Finset.univ : Finset (Dev nD)) (records (arg m) K))).trans ?_
    rw [← bigSep_sep']
    have h (c : Dev nD) : iprop(records (arg m) K ∗ linear c) ⊢ G' m c := by
      unfold G'
      iintro H
      iexists K
      iexact H
    exact bigSep_mono fun c _ => h c
  iapply hg
  isplitr
  · unfold records; isplitl; · iexact HI
    iexact HR
  iapply hlin
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_at (d c : Dev nD) (k k' : Fin 7) : tally d k (kcell (c, k')) () = if d = par c then (if k' = k then amt k else 0) else 0 := by
  rw [tallyAt_apply]
  by_cases h : d = par c
  · subst h
    rw [par_par, if_pos rfl]
    by_cases hk : k' = k
    · subst hk; rw [if_pos ⟨rfl, rfl⟩, if_pos rfl]
    · rw [if_neg fun h => hk (csem_injective (congrArg Prod.snd h.1)), if_neg hk]
  · rw [if_neg h, if_neg]
    rintro ⟨h1, -⟩
    have h2 : c = par d := congrArg (fun g : GSem nD τ sig => g.1.1) h1
    exact h (by rw [h2, par_par])

theorem owed_at (d c : Dev nD) (k : Fin 7) (hk : k = 0 ∨ k = 4 ∨ k = 5 ∨ k = 6) : O₀ d (kcell (c, k)) () = if d = par c then amt k else 0 := by
  unfold O₀ O₁
  rw [Pi.add_apply, Finsupp.add_apply, Pi.add_apply, Finsupp.add_apply, Pi.add_apply, Finsupp.add_apply, tally_at, tally_at, tally_at, tally_at]
  by_cases h : d = par c
  · simp only [if_pos h]
    rcases hk with rfl | rfl | rfl | rfl <;> simp
  · simp only [if_neg h]

theorem launch_at (c : Dev nD) (k : Fin 7) (hk : k = 0 ∨ k = 4 ∨ k = 5 ∨ k = 6) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (par c) fun _ => amt k, if_pos (Finset.mem_univ _)]

theorem creds_intro (c : Dev nD) : (Pipeline.launchCred O₀ c : sProp 𝕄) ⊢ creds c := by
  unfold Pipeline.launchCred creds
  rw [← launch_at c 0 (by decide), ← launch_at c 4 (by decide), ← launch_at c 5 (by decide), ← launch_at c 6 (by decide)]
  refine (BI.bigSep_subset (Finset.subset_univ ([csem 0, csem 4, csem 5, csem 6] : List (SemLoc sig)).toFinset)).trans ?_
  rw [bigSep_eq_bigSepL_of_eq [csem 0, csem 4, csem 5, csem 6] rfl (by decide)]
  exact Idealize.SL.BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem any_eq (c : Dev nD) (b : Ref sig .tc) :
    (iprop(∃ X : b.ty.Contents (Elt F), owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) :=
  congrArg _ (funext fun f => owns_whole (c : Thread nD τ) b fullShare f)

theorem scratch_eq (c : Dev nD) : (Pipeline.scopedRest cfg0.spec c : sProp 𝕄) = scratch c := by
  rw [scopedRest0_eq]
  simp only [← any_eq]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scratch_eq, ownSems0_eq, unscopedSems0_eq]
  unfold zeros
  iintro ⟨Hr, Hz0, Hz⟩
  isplitl [Hz0]; · iexact Hz0
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of @main ends, with every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- The one block of a window without a grid is the whole array. -/
theorem rect_emb {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (i : s.Idx) :
    ((Window.whole arr isOut sync stage sem harr hstage).rect (0 : Fin 1)).emb i = i := by
  funext a
  refine Fin.ext ?_
  refine ((Window.whole arr isOut sync stage sem harr hstage).rect_emb_val (0 : Fin 1) i a).trans ?_
  show 0 * _ + (i a : ℕ) = i a
  omega

/-- The arguments of device `c`, as its arrays hold them. -/
theorem arg_eq (c : Dev nD) : arg m c =
    ⟨m ((c : Thread nD τ).loc main_arg0), m ((c : Thread nD τ).loc main_arg1), m ((c : Thread nD τ).loc main_arg2), m ((c : Thread nD τ).loc main_arg3),
      m ((c : Thread nD τ).loc main_arg4), m ((c : Thread nD τ).loc main_arg5), m ((c : Thread nD τ).loc main_arg6), m ((c : Thread nD τ).loc main_arg7)⟩ := by
  unfold arg
  congr 1 <;> exact funext fun i => congrArg _ (rect_emb _ _ _ _ _ _ _ i)

theorem final_out (c : Dev nD) : finalA m ρ c (8 : Fin 9) = outV (arg m c) (arg m (par c)) := by
  have h : (win0_8.blk (0 : Fin 1)).view.read (Elt F) (finalA m ρ c (8 : Fin 9)) = outV (arg m c) (arg m (par c)) := by
    unfold finalA
    rw [show cfg0.N = ((0 : Fin 1) : Fin cfg0.N).val + 1 from rfl, (dats m ρ 0 c).arrAt_succ (8 : Fin 9) (0 : Fin 1)]
    rw [show (cfg0.win (8 : Fin 9)).flush (0 : Fin 1) = true from by decide, if_pos rfl]
    exact View.read_write_univ _ _
  exact (funext fun i => (congrArg (finalA m ρ c (8 : Fin 9)) (rect_emb _ _ _ _ _ _ _ i)).symm).trans h

/-- Every run ends with the arguments unchanged, the result computed and every counter at zero. -/
theorem run : θ_run defs (onTc (τ := τ) (main (F := F))) ⟨m, fun _ => 0, ρ⟩ (fun r => (∀ c : Dev nD,
      r.2.mem ((c : Thread nD τ).loc main_v1) = outV (arg m c) (arg m (par c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun r h => ⟨fun c => ⟨(h.1 c (8 : Fin 9)).trans (final_out m ρ c),
    (h.1 c (0 : Fin 9)).trans ((dats m ρ 0 c).arrAt_in (0 : Fin 9) rfl _), (h.1 c (1 : Fin 9)).trans ((dats m ρ 0 c).arrAt_in (1 : Fin 9) rfl _),
    (h.1 c (2 : Fin 9)).trans ((dats m ρ 0 c).arrAt_in (2 : Fin 9) rfl _), (h.1 c (3 : Fin 9)).trans ((dats m ρ 0 c).arrAt_in (3 : Fin 9) rfl _),
    (h.1 c (4 : Fin 9)).trans ((dats m ρ 0 c).arrAt_in (4 : Fin 9) rfl _), (h.1 c (5 : Fin 9)).trans ((dats m ρ 0 c).arrAt_in (5 : Fin 9) rfl _),
    (h.1 c (6 : Fin 9)).trans ((dats m ρ 0 c).arrAt_in (6 : Fin 9) rfl _), (h.1 c (7 : Fin 9)).trans ((dats m ρ 0 c).arrAt_in (7 : Fin 9) rfl _)⟩, h.2⟩) (run_main m ρ)

end Cert.KernelIdeal.Mla

end
-- ==== Proof.Attend.lean ====
/- Attention on the extended reals, apart from any program: sums of real entries stay real; a softmax without the
   subtracted maximum, divided after the weighted sum, is the softmax with it, divided before; a scale moved into the
   queries; a product over a joint axis as the sum over its two halves. -/
module

public import Idealize.ShloMosaic.PureOps.Ideal
public import Mathlib.Algebra.BigOperators.Fin
public import Mathlib.Data.Finset.Fold

@[expose] public section

noncomputable section

namespace Cert.Attend

open Idealize.ShloMosaic
open scoped BigOperators

/-! ## Real entries -/

/-- An extended real that is a real number. -/
def IsReal (a : EReal) : Prop := ∃ r : ℝ, a = (r : EReal)

theorem isReal_of_ne {a : EReal} (ht : a ≠ ⊤) (hb : a ≠ ⊥) : IsReal a := ⟨a.toReal, (EReal.coe_toReal ht hb).symm⟩

/-- An absolute value below infinity is that of a real number. -/
theorem isReal_of_abs_lt {a : EReal} (h : max a (-a) < ⊤) : IsReal a := by
  refine isReal_of_ne (fun e => ?_) (fun e => ?_)
  · subst e; simp at h
  · subst e; simp at h

theorem IsReal.mul {a b : EReal} : IsReal a → IsReal b → IsReal (a * b) := by
  rintro ⟨r, rfl⟩ ⟨s, rfl⟩; exact ⟨r * s, (EReal.coe_mul r s).symm⟩

theorem IsReal.add {a b : EReal} : IsReal a → IsReal b → IsReal (a + b) := by
  rintro ⟨r, rfl⟩ ⟨s, rfl⟩; exact ⟨r + s, (EReal.coe_add r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {n : ℕ} {f : Fin n → EReal} (h : ∀ k, IsReal (f k)) : IsReal (∑ k, f k) := by
  choose r hr using h
  exact ⟨∑ k, r k, by rw [coe_sum]; exact Finset.sum_congr rfl fun k _ => hr k⟩

/-- The maximum, from `-∞`, of real entries is real. -/
theorem isReal_fold_max {n : ℕ} (hn : 0 < n) {f : Fin n → EReal} (h : ∀ k, IsReal (f k)) :
    IsReal ((Finset.univ : Finset (Fin n)).fold max ⊥ f) := by
  choose r hr using h
  refine isReal_of_ne (ne_of_lt ?_) (ne_of_gt ?_)
  · exact (Finset.fold_max_lt _).mpr ⟨bot_lt_top, fun k _ => by rw [hr k]; exact EReal.coe_lt_top _⟩
  · exact (Finset.lt_fold_max _).mpr (.inr ⟨⟨0, hn⟩, Finset.mem_univ _, by rw [hr]; exact EReal.bot_lt_coe _⟩)

/-! ## The softmax -/

/-- A real factor that is not negative distributes over a sum of extended reals. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem div_real (a : EReal) {d : ℝ} (hd : d ≠ 0) : Ideal.div a (d : EReal) = a * ((d⁻¹ : ℝ) : EReal) := by
  unfold Ideal.div
  rw [if_neg (by exact_mod_cast hd), EReal.coe_inv]

/-- Exponentials weighted, summed and then divided by their own sum; and each exponential, taken after a shift by a
    real `M`, divided first. The weighted values may be any extended reals. -/
theorem softmax_shift {n : ℕ} (hn : 0 < n) (σ v : Fin n → EReal) (hσ : ∀ t, IsReal (σ t)) (M : EReal) (hM : IsReal M) :
    Ideal.div (∑ t, Ideal.exp (σ t) * v t) (∑ t, Ideal.exp (σ t))
      = ∑ t, v t * Ideal.div (Ideal.exp (σ t - M)) (0 + ∑ u, Ideal.exp (σ u - M)) := by
  choose s hs using hσ
  obtain ⟨μ, rfl⟩ := hM
  have e1 : ∀ t, Ideal.exp (σ t) = ((Real.exp (s t) : ℝ) : EReal) := fun t => by rw [hs t]; rfl
  have e2 : ∀ t, Ideal.exp (σ t - (μ : EReal)) = ((Real.exp (s t) * Real.exp (-μ) : ℝ) : EReal) := fun t => by
    rw [hs t, ← EReal.coe_sub, ← Real.exp_add, ← sub_eq_add_neg]; rfl
  have hpos : 0 < ∑ t, Real.exp (s t) := Finset.sum_pos (fun t _ => Real.exp_pos _) ⟨⟨0, hn⟩, Finset.mem_univ _⟩
  have d1 : ∑ t, Ideal.exp (σ t) = ((∑ t, Real.exp (s t) : ℝ) : EReal) := by
    rw [coe_sum]; exact Finset.sum_congr rfl fun t _ => e1 t
  have d2 : 0 + ∑ t, Ideal.exp (σ t - (μ : EReal)) = (((∑ t, Real.exp (s t)) * Real.exp (-μ) : ℝ) : EReal) := by
    rw [zero_add, Finset.sum_mul, coe_sum]; exact Finset.sum_congr rfl fun t _ => e2 t
  rw [d1, d2, div_real _ hpos.ne', sum_mul_real _ _ (inv_nonneg.mpr hpos.le)]
  refine Finset.sum_congr rfl fun t _ => ?_
  rw [e1 t, e2 t, div_real _ (mul_pos hpos (Real.exp_pos _)).ne', ← EReal.coe_mul, mul_comm _ (v t), mul_assoc, ← EReal.coe_mul]
  congr 2
  have hμ := (Real.exp_pos (-μ)).ne'
  field_simp

/-! ## The scale -/

theorem scale_in {n m : ℕ} {κ : EReal} (hκ : IsReal κ) {q k : Fin n → EReal} {q' k' : Fin m → EReal} (hq : ∀ d, IsReal (q d)) (hk : ∀ d, IsReal (k d))
    (hq' : ∀ d, IsReal (q' d)) (hk' : ∀ d, IsReal (k' d)) :
    (∑ d, (κ * q d) * k d) + (∑ d, (κ * q' d) * k' d) = ((∑ d, q d * k d) + ∑ d, q' d * k' d) * κ := by
  obtain ⟨c, rfl⟩ := hκ
  choose a ha using hq
  choose b hb using hk
  choose a' ha' using hq'
  choose b' hb' using hk'
  simp only [ha, hb, ha', hb', ← EReal.coe_mul, ← coe_sum, ← EReal.coe_add]
  congr 1
  rw [add_mul, Finset.sum_mul, Finset.sum_mul]
  congr 1 <;> exact Finset.sum_congr rfl fun d _ => by ring

/-! ## The two halves of a joint axis -/

/-- A sum over an axis of two halves is the sum over the half of `c` and that over the other, `c` being either. -/
theorem sum_halves {n : ℕ} (f : Fin (2 * n) → EReal) (c e : Fin 2) (hce : e.val = 1 - c.val) :
    (∑ r : Fin n, f ⟨c.val * n + r.val, by have := r.isLt; have := c.isLt; nlinarith⟩)
      + (∑ r : Fin n, f ⟨e.val * n + r.val, by have := r.isLt; have := e.isLt; nlinarith⟩) = ∑ r, f r := by
  have h2 : ∑ r, f r = (∑ r : Fin n, f ⟨r.val, by omega⟩) + ∑ r : Fin n, f ⟨n + r.val, by omega⟩ := by
    rw [← Equiv.sum_comp (finCongr (two_mul n).symm), Fin.sum_univ_add]
    rfl
  rw [h2]
  have he : c = 0 ∧ e = 1 ∨ c = 1 ∧ e = 0 := by
    rcases (show c = 0 ∨ c = 1 by omega) with rfl | rfl
    · exact .inl ⟨rfl, Fin.ext hce⟩
    · exact .inr ⟨rfl, Fin.ext hce⟩
  rcases he with ⟨rfl, rfl⟩ | ⟨rfl, rfl⟩
  · simp
  · rw [add_comm]; simp

end Cert.Attend

end
-- ==== Proof.KernelRead.lean ====
/- The kernel's buffers read at an index, at the ideal values: each payload's element as sums over its operands'
   elements, and from them the element of the result. -/
module

public import proofs.«01_k».proof.Proof.KernelIdeal.Values
public import Idealize.ShloMosaic.Lib.MatmulPlain
public import Idealize.ShloMosaic.Lib.ValueLayout
public import Idealize.ShloMosaic.Lib.ValueLayoutCasts

@[expose] public section

noncomputable section

namespace Cert.KernelIdeal.Mla

open Cert.KernelIdeal Cert.KernelIdeal.Gen
open Idealize.ShloMosaic Idealize.ShloMosaic.TcCoe Idealize.ShloMosaic.ValueIdx
open scoped BigOperators

theorem ixR_eq {w : ℕ} (i : Fin 256) (j : Fin w) : ixR i j = ix3 (0 : Fin 1) i j := by
  funext a; fin_cases a <;> rfl
theorem ixF_eq {N : ℕ} (b : Fin 2) (i : Fin 256) (j : Fin N) : ixF b i j = ix3 b i j := by
  funext a; fin_cases a <;> rfl

/-! ## The products -/

theorem mul_at {M K N : ℕ} {φ₁ φ₂ : FTy} {d : DotDims ⟨2, ![M, K]⟩ ⟨2, ![K, N]⟩ ⟨2, ![M, N]⟩} (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  show Ideal.ofBits .f32 0x00000000#32 + _ = _
  rw [Ideal.ofBits_zero_f32, zero_add]

theorem mulT_at {M K N : ℕ} {φ₁ φ₂ : FTy} {d : DotDims ⟨2, ![M, K]⟩ ⟨2, ![N, K]⟩ ⟨2, ![M, N]⟩} (hd : d = DotDims.transposedRhs M K N)
    (l : FVec Ideal ⟨2, ![M, K]⟩ φ₁) (r : FVec Ideal ⟨2, ![N, K]⟩ φ₂) (i : Fin M) (j : Fin N) :
    matmul d none l r (constant ⟨2, ![M, N]⟩ .f32 0x00000000#32) (ix2 i j) = ∑ k : Fin K, l (ix2 i k) * r (ix2 j k) := by
  subst hd
  refine (Ideal.matmul_transposedRhs_apply none l r _ i j).trans ?_
  show Ideal.ofBits .f32 0x00000000#32 + _ = _
  rw [Ideal.ofBits_zero_f32, zero_add]

/-- A change of format is the identity. -/
theorem trunc_eq {s : Shape} {φ ψ : FTy} (v : FVec Ideal s φ) (h : ψ.bits < φ.bits) : truncf ψ v h = v := rfl

/-! ## The payloads -/

/-- The scale, as the constant that both programs carry. -/
def κ : EReal := Ideal.ofBits .f32 0x3DD105EC#32

theorem pay3_at (v : Vec Ideal S1x256x1024 .f32) (i : Fin 256) (k : Fin 1024) : k0_pay3 v (ix3 0 i k) = v (ix3 0 i k) := by
  unfold k0_pay3
  refine (shapeCast_ab_1ab_apply _ _ 0 i k).trans ?_
  rw [trunc_eq]
  exact shapeCast_1ab_ab_apply _ _ i k

theorem pay6_at (x : Vec Ideal S1x256x1024 .bf16) (w : Vec Ideal S1024x64 .f32) (i : Fin 256) (j : Fin 64) :
    k0_pay6 x w (ix3 0 i j) = ∑ k : Fin 1024, x (ix3 0 i k) * w (ix2 k j) := by
  unfold k0_pay6
  refine (shapeCast_ab_1ab_apply _ _ 0 i j).trans ?_
  simp only [trunc_eq, shapeCast_self]
  refine (mul_at (φ₁ := .bf16) (φ₂ := .bf16) rfl _ _ i j).trans (Finset.sum_congr rfl fun k _ => ?_)
  exact congrArg (· * _) (shapeCast_1ab_ab_apply _ _ i k)

theorem pay12_at (w : Vec Ideal S1024x1024 .f32) (x : Vec Ideal S1x256x1024 .bf16) (i : Fin 256) (j : Fin 1024) :
    k0_pay12 w x (ix3 0 i j) = κ * ∑ k : Fin 1024, x (ix3 0 i k) * w (ix2 k j) := by
  unfold k0_pay12 k0_pay11 k0_pay8
  refine (shapeCast_ab_1ab_apply _ _ 0 i j).trans ?_
  simp only [trunc_eq, shapeCast_self]
  refine congrArg (κ * ·) ((mul_at (φ₁ := .bf16) (φ₂ := .bf16) rfl _ _ i j).trans (Finset.sum_congr rfl fun k _ => ?_))
  exact congrArg (· * _) (shapeCast_1ab_ab_apply _ _ i k)

theorem pay13_at (w : Vec Ideal S1024x512 .f32) (x : Vec Ideal S1x256x1024 .bf16) (i : Fin 256) (j : Fin 512) :
    k0_pay13 w x (ix3 0 i j) = κ * ∑ k : Fin 1024, x (ix3 0 i k) * w (ix2 k j) := by
  unfold k0_pay13 k0_pay11 k0_pay9
  refine (shapeCast_ab_1ab_apply _ _ 0 i j).trans ?_
  simp only [trunc_eq, shapeCast_self]
  refine congrArg (κ * ·) ((mul_at (φ₁ := .bf16) (φ₂ := .bf16) rfl _ _ i j).trans (Finset.sum_congr rfl fun k _ => ?_))
  exact congrArg (· * _) (shapeCast_1ab_ab_apply _ _ i k)

theorem pay14_at (w : Vec Ideal S1024x32 .f32) (x : Vec Ideal S1x256x1024 .bf16) (i : Fin 256) (j : Fin 32) :
    k0_pay14 w x (ix3 0 i j) = ∑ k : Fin 1024, x (ix3 0 i k) * w (ix2 k j) := by
  unfold k0_pay14 k0_pay11 k0_pay10
  refine (shapeCast_ab_1ab_apply _ _ 0 i j).trans ?_
  simp only [trunc_eq, shapeCast_self]
  refine (mul_at (φ₁ := .bf16) (φ₂ := .bf16) rfl _ _ i j).trans (Finset.sum_congr rfl fun k _ => ?_)
  exact congrArg (· * _) (shapeCast_1ab_ab_apply _ _ i k)

theorem pay24_at (w w' : Vec Ideal S64x1024 .f32) (c c' : Vec Ideal S1x256x64 .bf16) (i : Fin 256) (j : Fin 1024) :
    k0_pay24 w w' c c' (ix3 0 i j) = (∑ r : Fin 64, c (ix3 0 i r) * w (ix2 r j)) + ∑ r : Fin 64, c' (ix3 0 i r) * w' (ix2 r j) := by
  unfold k0_pay24 k0_pay20 k0_pay22
  refine (shapeCast_ab_1ab_apply _ _ 0 i j).trans ?_
  simp only [trunc_eq, shapeCast_self]
  refine congrArg₂ (· + ·) ((mul_at (φ₁ := .bf16) (φ₂ := .bf16) rfl _ _ i j).trans (Finset.sum_congr rfl fun k _ => ?_))
    ((mul_at (φ₁ := .bf16) (φ₂ := .bf16) rfl _ _ i j).trans (Finset.sum_congr rfl fun k _ => ?_))
  · exact congrArg (· * _) (shapeCast_1ab_ab_apply _ _ i k)
  · exact congrArg (· * _) (shapeCast_1ab_ab_apply _ _ i k)

theorem pay2_at (o : Vec Ideal S1x256x1024 .bf16) (w : Vec Ideal S1024x1024 .f32) (i : Fin 256) (j : Fin 1024) :
    k0_pay2 o w (ix3 0 i j) = ∑ k : Fin 1024, o (ix3 0 i k) * w (ix2 k j) := by
  unfold k0_pay2
  refine (shapeCast_ab_1ab_apply _ _ 0 i j).trans ?_
  simp only [trunc_eq, shapeCast_self]
  refine (mul_at (φ₁ := .bf16) (φ₂ := .bf16) rfl _ _ i j).trans (Finset.sum_congr rfl fun k _ => ?_)
  exact congrArg (· * _) (shapeCast_1ab_ab_apply _ _ i k)

/-- A head's score of query row `s` at key row `t`. -/
def scoreK (kr : Vec Ideal S1x256x32 .bf16) (q k : Vec Ideal S1x256x64 .bf16) (qr : Vec Ideal S1x256x32 .bf16) (s t : Fin 256) : EReal :=
  (∑ d : Fin 64, q (ix3 0 s d) * k (ix3 0 t d)) + ∑ d : Fin 32, qr (ix3 0 s d) * kr (ix3 0 t d)

theorem pay31_at (kr : Vec Ideal S1x256x32 .bf16) (q k : Vec Ideal S1x256x64 .bf16) (qr : Vec Ideal S1x256x32 .bf16) (v : Vec Ideal S1x256x64 .bf16)
    (s : Fin 256) (d : Fin 64) :
    k0_pay31 kr q k qr v (ix3 0 s d)
      = Ideal.div (∑ t : Fin 256, Ideal.exp (scoreK kr q k qr s t) * v (ix3 0 t d)) (∑ t : Fin 256, Ideal.exp (scoreK kr q k qr s t)) := by
  unfold k0_pay31 k0_pay30
  refine (shapeCast_ab_1ab_apply _ _ 0 s d).trans ?_
  simp only [trunc_eq]
  have hp : ∀ t : Fin 256,
      exp (F := Ideal) (φ := .f32) (addf (matmul (φ₁ := .bf16) (φ₂ := .bf16) dot_S256x64_S256x64_S256x256_1_1_0_0_n_n none (shapeCast S256x64 q shapeCasts_S1x256x64_S256x64)
          (shapeCast S256x64 k shapeCasts_S1x256x64_S256x64) (constant S256x256 .f32 0x00000000#32))
        (matmul (φ₁ := .bf16) (φ₂ := .bf16) dot_S256x32_S256x32_S256x256_1_1_0_0_n_n none (shapeCast S256x32 qr shapeCasts_S1x256x32_S256x32)
          (shapeCast S256x32 kr shapeCasts_S1x256x32_S256x32) (constant S256x256 .f32 0x00000000#32))) (ix2 s t)
        = Ideal.exp (scoreK kr q k qr s t) := by
    intro t
    refine congrArg Ideal.exp (congrArg₂ (· + ·) ?_ ?_)
    · refine (mulT_at (φ₁ := .bf16) (φ₂ := .bf16) rfl _ _ s t).trans (Finset.sum_congr rfl fun d _ => ?_)
      exact congrArg₂ (· * ·) (shapeCast_1ab_ab_apply _ _ s d) (shapeCast_1ab_ab_apply _ _ t d)
    · refine (mulT_at (φ₁ := .bf16) (φ₂ := .bf16) rfl _ _ s t).trans (Finset.sum_congr rfl fun d _ => ?_)
      exact congrArg₂ (· * ·) (shapeCast_1ab_ab_apply _ _ s d) (shapeCast_1ab_ab_apply _ _ t d)
  refine congrArg₂ Ideal.div ?_ ?_
  · refine (mul_at (φ₁ := .bf16) (φ₂ := .bf16) rfl _ _ s d).trans (Finset.sum_congr rfl fun t _ => ?_)
    exact congrArg₂ (· * ·) (hp t) (shapeCast_1ab_ab_apply _ _ t d)
  · refine (broadcastTo_apply _ broadcasts_S256x1_S256x64 (ix2 s d) (ix2 s (0 : Fin 1)) (fun a => match a with | ⟨0, _⟩ => rfl | ⟨1, _⟩ => rfl)).trans ?_
    refine (shapeCast_a_a1_apply _ _ s 0).trans ?_
    refine (Ideal.multiReduction_add_single _ _ reduces_S256x256_S256 _ _ (ix1 s)).trans (Finset.sum_congr rfl fun t _ => ?_)
    rw [← hp t]
    exact congrArg _ (funext fun a => Fin.ext (match a with | ⟨0, _⟩ => rfl | ⟨1, _⟩ => rfl))

/-! ## The buffers -/

theorem cut_at {N : ℕ} {e : EltTy} (X : Vec Ideal (Full N) e) (b : Fin 2) (o w : ℕ) (h : o + w ≤ N) (i : Fin 256) (j : Fin w) :
    cut X b.val o w b.isLt h (ix3 0 i j) = X (ix3 b i ⟨o + j.val, by have := j.isLt; omega⟩) := by
  refine (congrArg X (slab_emb b.isLt h (ix3 0 i j))).trans ?_
  exact congrArg X (ixF_eq b i ⟨o + j.val, _⟩)

theorem two_at {N : ℕ} {e : EltTy} (p : (b : ℕ) → b < 2 → Vec Ideal (Row N) e) (b : Fin 2) (i : Fin 256) (j : Fin N) :
    two p (ix3 b i j) = p b.val b.isLt (ix3 0 i j) := by
  exact congrArg (p b.val b.isLt) (ixR_eq i j)

variable (A B : Args Ideal) (b : Fin 2)

theorem x16B_at (i : Fin 256) (k : Fin 1024) : x16B A b.val b.isLt (ix3 0 i k) = A.x (ix3 b i k) := by
  unfold x16B
  rw [pay3_at, cut_at]
  exact congrArg A.x (congrArg (ix3 b i) (Fin.ext (Nat.zero_add _)))

theorem csB_at (i : Fin 256) (r : Fin 64) : csB A b.val b.isLt (ix3 0 i r) = ∑ k : Fin 1024, A.x (ix3 b i k) * A.wdkv (ix2 k r) := by
  unfold csB
  rw [pay6_at]
  exact Finset.sum_congr rfl fun k _ => by rw [x16B_at]

theorem qB_at (i : Fin 256) (n : Fin 1024) : qB A b.val b.isLt (ix3 0 i n) = κ * ∑ k : Fin 1024, A.x (ix3 b i k) * A.wq (ix2 k n) := by
  unfold qB
  rw [pay12_at]
  exact congrArg (κ * ·) (Finset.sum_congr rfl fun k _ => by rw [x16B_at])

theorem qrB_at (i : Fin 256) (n : Fin 512) : qrB A b.val b.isLt (ix3 0 i n) = κ * ∑ k : Fin 1024, A.x (ix3 b i k) * A.wqr (ix2 k n) := by
  unfold qrB
  rw [pay13_at]
  exact congrArg (κ * ·) (Finset.sum_congr rfl fun k _ => by rw [x16B_at])

theorem krB_at (i : Fin 256) (n : Fin 32) : krB A b.val b.isLt (ix3 0 i n) = ∑ k : Fin 1024, A.x (ix3 b i k) * A.wkr (ix2 k n) := by
  unfold krB
  rw [pay14_at]
  exact Finset.sum_congr rfl fun k _ => by rw [x16B_at]

/-- Head `h`'s score of query row `s` at key row `t`, over the buffers. -/
def scK (h : Fin 16) (s t : Fin 256) : EReal :=
  (∑ d : Fin 64, qB A b.val b.isLt (ix3 0 s ⟨64 * h.val + d.val, by omega⟩) * kB A B b.val b.isLt (ix3 0 t ⟨64 * h.val + d.val, by omega⟩))
    + ∑ d : Fin 32, qrB A b.val b.isLt (ix3 0 s ⟨32 * h.val + d.val, by omega⟩) * krB A b.val b.isLt (ix3 0 t d)

theorem headB_at (h : Fin 16) (s : Fin 256) (d : Fin 64) :
    headB A B b.val b.isLt h.val h.isLt (ix3 0 s d)
      = Ideal.div (∑ t : Fin 256, Ideal.exp (scK A B b h s t) * vB A B b.val b.isLt (ix3 0 t ⟨64 * h.val + d.val, by omega⟩))
          (∑ t : Fin 256, Ideal.exp (scK A B b h s t)) := by
  unfold headB
  rw [pay31_at]
  have hs : ∀ t : Fin 256, scoreK (krB A b.val b.isLt) (cut (two (qB A)) b.val (64 * h.val) 64 b.isLt (by omega))
      (cut (two (kB A B)) b.val (64 * h.val) 64 b.isLt (by omega)) (cut (two (qrB A)) b.val (32 * h.val) 32 b.isLt (by omega)) s t = scK A B b h s t := by
    intro t
    unfold scoreK scK
    refine congrArg₂ (· + ·) (Finset.sum_congr rfl fun d _ => ?_) (Finset.sum_congr rfl fun d _ => ?_)
    · rw [cut_at, cut_at, two_at, two_at]
    · rw [cut_at, two_at]
  simp only [hs]
  refine congrArg (Ideal.div · _) (Finset.sum_congr rfl fun t _ => ?_)
  rw [cut_at, two_at]

/-- The head of a column. -/
def headOf (j : Fin 1024) : Fin 16 := ⟨j.val / 64, by omega⟩

theorem oB_at (s : Fin 256) (j : Fin 1024) :
    oB A B b.val b.isLt (ix3 0 s j)
      = Ideal.div (∑ t : Fin 256, Ideal.exp (scK A B b (headOf j) s t) * vB A B b.val b.isLt (ix3 0 t j))
          (∑ t : Fin 256, Ideal.exp (scK A B b (headOf j) s t)) := by
  have h := headB_at A B b (headOf j) s ⟨j.val % 64, Nat.mod_lt _ (by decide)⟩
  have hj : (⟨64 * (headOf j).val + j.val % 64, by have := (headOf j).isLt; omega⟩ : Fin 1024) = j :=
    Fin.ext (Nat.div_add_mod _ _)
  simp only [hj] at h
  rw [← h]
  exact congrArg (headB A B b.val b.isLt (j.val / 64) _) (ixR_eq s ⟨j.val % 64, _⟩)

/-- The element of the kernel's result. -/
theorem outV_at (s : Fin 256) (n : Fin 1024) :
    outV A B (ix3 b s n)
      = ∑ j : Fin 1024, Ideal.div (∑ t : Fin 256, Ideal.exp (scK A B b (headOf j) s t) * vB A B b.val b.isLt (ix3 0 t j))
          (∑ t : Fin 256, Ideal.exp (scK A B b (headOf j) s t)) * A.wo (ix2 j n) := by
  unfold outV
  rw [two_at]
  unfold outB
  rw [pay2_at]
  exact Finset.sum_congr rfl fun j _ => by rw [oB_at]

end Cert.KernelIdeal.Mla

end
-- ==== Proof.ReferenceRead.lean ====
/- The reference's values read at an index, at the ideal values: its projections, its scaled scores, its softmax and
   its result as sums over elements of the arguments and of one another. -/
module

public import proofs.«01_k».proof.Proof.Gen.ReferenceIdeal.Read
public import Idealize.ShloMosaic.Lib.ValueIdxCore
public import Mathlib.Tactic.FinCases

@[expose] public section

noncomputable section

namespace Cert.ReferenceIdeal.Mla

open Cert.ReferenceIdeal Cert.ReferenceIdeal.Gen Cert.ReferenceIdeal.Read
open Idealize.ShloMosaic Idealize.ShloMosaic.TcCoe Idealize.ShloMosaic.ValueIdx
open scoped BigOperators

variable (x0 : (⟨S2x256x1024, .f32⟩ : BufTy).Contents (Elt Ideal)) (x1 : (⟨S1024x128, .f32⟩ : BufTy).Contents (Elt Ideal))
  (x2 x3 : (⟨S128x1024, .f32⟩ : BufTy).Contents (Elt Ideal)) (x4 : (⟨S1024x1024, .f32⟩ : BufTy).Contents (Elt Ideal))
  (x5 : (⟨S1024x512, .f32⟩ : BufTy).Contents (Elt Ideal)) (x6 : (⟨S1024x32, .f32⟩ : BufTy).Contents (Elt Ideal))
  (x7 : (⟨S1024x1024, .f32⟩ : BufTy).Contents (Elt Ideal))

/-! ## The projections -/

theorem c_at (b : Fin 2) (s : Fin 256) (r : Fin 128) :
    val_main_v0 (F := Ideal) x0 x1 (ix3 b s r) = ∑ k : Fin 1024, x0 (ix3 b s k) * x1 (ix2 k r) := by
  rw [val_main_v0_apply]
  refine Finset.sum_congr rfl fun k _ => congrArg₂ (fun p q => x0 p * x1 q) ?_ ?_ <;> (funext a; fin_cases a <;> rfl)

theorem k_at (b : Fin 2) (s : Fin 256) (n : Fin 1024) :
    val_main_v1 (F := Ideal) x0 x1 x2 (ix3 b s n) = ∑ r : Fin 128, val_main_v0 (F := Ideal) x0 x1 (ix3 b s r) * x2 (ix2 r n) := by
  rw [val_main_v1_apply]
  refine Finset.sum_congr rfl fun k _ => congrArg₂ (fun p q => val_main_v0 (F := Ideal) x0 x1 p * x2 q) ?_ ?_ <;> (funext a; fin_cases a <;> rfl)

theorem v_at (b : Fin 2) (s : Fin 256) (n : Fin 1024) :
    val_main_v3 (F := Ideal) x0 x1 x3 (ix3 b s n) = ∑ r : Fin 128, val_main_v0 (F := Ideal) x0 x1 (ix3 b s r) * x3 (ix2 r n) := by
  rw [val_main_v3_apply]
  refine Finset.sum_congr rfl fun k _ => congrArg₂ (fun p q => val_main_v0 (F := Ideal) x0 x1 p * x3 q) ?_ ?_ <;> (funext a; fin_cases a <;> rfl)

theorem q_at (b : Fin 2) (s : Fin 256) (n : Fin 1024) :
    val_main_v5 (F := Ideal) x0 x4 (ix3 b s n) = ∑ k : Fin 1024, x0 (ix3 b s k) * x4 (ix2 k n) := by
  rw [val_main_v5_apply]
  refine Finset.sum_congr rfl fun k _ => congrArg₂ (fun p q => x0 p * x4 q) ?_ ?_ <;> (funext a; fin_cases a <;> rfl)

theorem qr_at (b : Fin 2) (s : Fin 256) (n : Fin 512) :
    val_main_v7 (F := Ideal) x0 x5 (ix3 b s n) = ∑ k : Fin 1024, x0 (ix3 b s k) * x5 (ix2 k n) := by
  rw [val_main_v7_apply]
  refine Finset.sum_congr rfl fun k _ => congrArg₂ (fun p q => x0 p * x5 q) ?_ ?_ <;> (funext a; fin_cases a <;> rfl)

theorem kr_at (b : Fin 2) (s : Fin 256) (n : Fin 32) :
    val_main_v9 (F := Ideal) x0 x6 (ix3 b s n) = ∑ k : Fin 1024, x0 (ix3 b s k) * x6 (ix2 k n) := by
  rw [val_main_v9_apply]
  refine Finset.sum_congr rfl fun k _ => congrArg₂ (fun p q => x0 p * x6 q) ?_ ?_ <;> (funext a; fin_cases a <;> rfl)

/-! ## Columns as heads -/

theorem heads64 {α : Type} (y : S2x256x1024.Idx → α) (i : S2x256x1024.Idx) (b : Fin 2) (s : Fin 256) (h : Fin 16) (d : Fin 64)
    (h0 : (i 0).val = (((b.val * 256 + s.val) * 16 + h.val) * 64 + d.val) / 262144)
    (h1 : (i 1).val = (((b.val * 256 + s.val) * 16 + h.val) * 64 + d.val) / 1024 % 256)
    (h2 : (i 2).val = (((b.val * 256 + s.val) * 16 + h.val) * 64 + d.val) % 1024) :
    y i = y (ix3 b s ⟨64 * h.val + d.val, by omega⟩) := by
  refine congrArg y (funext fun a => Fin.ext ?_)
  fin_cases a
  · refine h0.trans ?_
    show _ = b.val
    omega
  · refine h1.trans ?_
    show _ = s.val
    omega
  · refine h2.trans ?_
    show _ = 64 * h.val + d.val
    omega

theorem heads32 {α : Type} (y : S2x256x512.Idx → α) (i : S2x256x512.Idx) (b : Fin 2) (s : Fin 256) (h : Fin 16) (d : Fin 32)
    (h0 : (i 0).val = (((b.val * 256 + s.val) * 16 + h.val) * 32 + d.val) / 131072)
    (h1 : (i 1).val = (((b.val * 256 + s.val) * 16 + h.val) * 32 + d.val) / 512 % 256)
    (h2 : (i 2).val = (((b.val * 256 + s.val) * 16 + h.val) * 32 + d.val) % 512) :
    y i = y (ix3 b s ⟨32 * h.val + d.val, by omega⟩) := by
  refine congrArg y (funext fun a => Fin.ext ?_)
  fin_cases a
  · refine h0.trans ?_
    show _ = b.val
    omega
  · refine h1.trans ?_
    show _ = s.val
    omega
  · refine h2.trans ?_
    show _ = 32 * h.val + d.val
    omega

theorem kh_at (b : Fin 2) (s : Fin 256) (h : Fin 16) (d : Fin 64) :
    val_main_v2 (F := Ideal) x0 x1 x2 (ix4 b s h d) = val_main_v1 (F := Ideal) x0 x1 x2 (ix3 b s ⟨64 * h.val + d.val, by omega⟩) := by
  rw [val_main_v2_apply]
  exact heads64 _ _ b s h d rfl rfl rfl

theorem vh_at (b : Fin 2) (s : Fin 256) (h : Fin 16) (d : Fin 64) :
    val_main_v4 (F := Ideal) x0 x1 x3 (ix4 b s h d) = val_main_v3 (F := Ideal) x0 x1 x3 (ix3 b s ⟨64 * h.val + d.val, by omega⟩) := by
  rw [val_main_v4_apply]
  exact heads64 _ _ b s h d rfl rfl rfl

theorem qh_at (b : Fin 2) (s : Fin 256) (h : Fin 16) (d : Fin 64) :
    val_main_v6 (F := Ideal) x0 x4 (ix4 b s h d) = val_main_v5 (F := Ideal) x0 x4 (ix3 b s ⟨64 * h.val + d.val, by omega⟩) := by
  rw [val_main_v6_apply]
  exact heads64 _ _ b s h d rfl rfl rfl

theorem qrh_at (b : Fin 2) (s : Fin 256) (h : Fin 16) (d : Fin 32) :
    val_main_v8 (F := Ideal) x0 x5 (ix4 b s h d) = val_main_v7 (F := Ideal) x0 x5 (ix3 b s ⟨32 * h.val + d.val, by omega⟩) := by
  rw [val_main_v8_apply]
  exact heads32 _ _ b s h d rfl rfl rfl

theorem krh_at (b : Fin 2) (s : Fin 256) (h : Fin 16) (d : Fin 32) :
    val_main_v12 (F := Ideal) x0 x6 (ix4 b s h d) = val_main_v9 (F := Ideal) x0 x6 (ix3 b s d) := by
  rw [val_main_v12_apply, val_main_v10_apply]
  refine congrArg _ (funext fun a => ?_)
  fin_cases a <;> refine Fin.ext ?_
  · show (((b.val * 256 + s.val) * 1 + 0) * 32 + d.val) / 8192 = b.val
    omega
  · show (((b.val * 256 + s.val) * 1 + 0) * 32 + d.val) / 32 % 256 = s.val
    omega
  · show (((b.val * 256 + s.val) * 1 + 0) * 32 + d.val) % 32 = d.val
    omega

/-! ## Scores and softmax -/

theorem raw_at (b : Fin 2) (h : Fin 16) (s t : Fin 256) :
    val_main_v14 (F := Ideal) x0 x1 x2 x4 x5 x6 (ix4 b h s t)
      = (∑ d : Fin 64, val_main_v5 (F := Ideal) x0 x4 (ix3 b s ⟨64 * h.val + d.val, by omega⟩)
            * val_main_v1 (F := Ideal) x0 x1 x2 (ix3 b t ⟨64 * h.val + d.val, by omega⟩))
        + ∑ d : Fin 32, val_main_v7 (F := Ideal) x0 x5 (ix3 b s ⟨32 * h.val + d.val, by omega⟩) * val_main_v9 (F := Ideal) x0 x6 (ix3 b t d) := by
  rw [val_main_v14_apply, val_main_v11_apply, val_main_v13_apply]
  refine congrArg₂ (· + ·) (Finset.sum_congr rfl fun d _ => ?_) (Finset.sum_congr rfl fun d _ => ?_)
  · rw [← qh_at, ← kh_at]
    exact congrArg₂ (fun p q => val_main_v6 (F := Ideal) x0 x4 p * val_main_v2 (F := Ideal) x0 x1 x2 q)
      (funext fun a => by fin_cases a <;> rfl) (funext fun a => by fin_cases a <;> rfl)
  · rw [← qrh_at, ← krh_at x0 x6 b t h d]
    exact congrArg₂ (fun p q => val_main_v8 (F := Ideal) x0 x5 p * val_main_v12 (F := Ideal) x0 x6 q)
      (funext fun a => by fin_cases a <;> rfl) (funext fun a => by fin_cases a <;> rfl)

theorem score_at (b : Fin 2) (h : Fin 16) (s t : Fin 256) :
    val_main_v16 (F := Ideal) x0 x1 x2 x4 x5 x6 (ix4 b h s t)
      = val_main_v14 (F := Ideal) x0 x1 x2 x4 x5 x6 (ix4 b h s t) * Ideal.ofBits .f32 0x3DD105EC#32 := by
  rw [val_main_v16_apply, val_main_v15_apply]
  rfl

theorem neg_inf : Ideal.ofBits .f32 0xFF800000#32 = ⊥ := by simp [Ideal.ofBits, Ideal.ieee]

theorem max_at (b : Fin 2) (h : Fin 16) (s : Fin 256) :
    val_main_v17 (F := Ideal) x0 x1 x2 x4 x5 x6 (ix3 b h s)
      = (Finset.univ : Finset (Fin 256)).fold max ⊥ (fun t => val_main_v16 (F := Ideal) x0 x1 x2 x4 x5 x6 (ix4 b h s t)) := by
  unfold val_main_v17
  generalize val_main_v16 (F := Ideal) x0 x1 x2 x4 x5 x6 = y
  refine (Host.reduce_eq_fold_single _ y _ reducesTo_S2x16x256x256_S2x16x256_d3 (by decide) h_S_ (ix3 b h s)).trans ?_
  rw [show val_main_cst_0 (F := Ideal) (Shape.Idx.first h_S_) = ⊥ from neg_inf]
  show Finset.fold max ⊥ _ _ = _
  congr 1
  funext t
  exact congrArg y (funext fun a => Fin.ext (match a with | ⟨0, _⟩ => rfl | ⟨1, _⟩ => rfl | ⟨2, _⟩ => rfl | ⟨3, _⟩ => rfl))

theorem exp_at (b : Fin 2) (h : Fin 16) (s t : Fin 256) :
    val_main_v21 (F := Ideal) x0 x1 x2 x4 x5 x6 (ix4 b h s t)
      = Ideal.exp (val_main_v16 (F := Ideal) x0 x1 x2 x4 x5 x6 (ix4 b h s t) - val_main_v17 (F := Ideal) x0 x1 x2 x4 x5 x6 (ix3 b h s)) := by
  rw [val_main_v21_apply, val_main_v20_apply, val_main_v19_apply, val_main_v18_apply]
  have e : idx_main_v18 (idx_main_v19 (ix4 b h s t)) = ix3 b h s := funext fun a => by fin_cases a <;> rfl
  rw [e]
  rfl

theorem soft_at (b : Fin 2) (h : Fin 16) (s t : Fin 256) :
    val_main_v25 (F := Ideal) x0 x1 x2 x4 x5 x6 (ix4 b h s t)
      = Ideal.div (val_main_v21 (F := Ideal) x0 x1 x2 x4 x5 x6 (ix4 b h s t))
          (0 + ∑ u : Fin 256, val_main_v21 (F := Ideal) x0 x1 x2 x4 x5 x6 (ix4 b h s u)) := by
  rw [val_main_v25_apply, val_main_v24_apply, val_main_v23_apply, val_main_v22_apply]
  refine congrArg (Ideal.div _) (congrArg₂ (· + ·) Ideal.ofBits_zero_f32 (Finset.sum_congr rfl fun u _ => congrArg _ ?_))
  exact funext fun a => by fin_cases a <;> rfl

/-! ## The result -/

/-- The head of a column. -/
def headOf (j : Fin 1024) : Fin 16 := ⟨j.val / 64, by omega⟩

theorem o_at (b : Fin 2) (s : Fin 256) (j : Fin 1024) :
    val_main_v28 (F := Ideal) x0 x1 x2 x3 x4 x5 x6 (ix3 b s j)
      = ∑ t : Fin 256, val_main_v3 (F := Ideal) x0 x1 x3 (ix3 b t j) * val_main_v25 (F := Ideal) x0 x1 x2 x4 x5 x6 (ix4 b (headOf j) s t) := by
  rw [val_main_v28_apply, val_main_v27_apply]
  have e : idx_main_v27 (idx_main_v28 (ix3 b s j)) = ix4 b (headOf j) (⟨j.val % 64, Nat.mod_lt _ (by decide)⟩ : Fin 64) s := by
    funext a
    fin_cases a <;> refine Fin.ext ?_
    · show ((b.val * 256 + s.val) * 1024 + j.val) / 262144 = b.val
      omega
    · show ((b.val * 256 + s.val) * 1024 + j.val) / 64 % 16 = j.val / 64
      omega
    · show ((b.val * 256 + s.val) * 1024 + j.val) % 64 = j.val % 64
      omega
    · show ((b.val * 256 + s.val) * 1024 + j.val) / 1024 % 256 = s.val
      omega
  rw [e, val_main_v26_apply]
  refine Finset.sum_congr rfl fun t _ => ?_
  have hj : j = (⟨64 * (headOf j).val + j.val % 64, by have := (headOf j).isLt; omega⟩ : Fin 1024) := Fin.ext (Nat.div_add_mod _ _).symm
  conv_rhs => rw [show ix3 b t j = ix3 b t (⟨64 * (headOf j).val + j.val % 64, by have := (headOf j).isLt; omega⟩ : Fin 1024) from congrArg (ix3 b t) hj]
  rw [← vh_at x0 x1 x3 b t (headOf j) ⟨j.val % 64, Nat.mod_lt _ (by decide)⟩]
  exact congrArg₂ (fun p q => val_main_v4 (F := Ideal) x0 x1 x3 p * val_main_v25 (F := Ideal) x0 x1 x2 x4 x5 x6 q)
    (funext fun a => by fin_cases a <;> rfl) (funext fun a => by fin_cases a <;> rfl)

theorem out_at (b : Fin 2) (s : Fin 256) (n : Fin 1024) :
    val_main_v29 (F := Ideal) x0 x1 x2 x3 x4 x5 x6 x7 (ix3 b s n)
      = ∑ j : Fin 1024, val_main_v28 (F := Ideal) x0 x1 x2 x3 x4 x5 x6 (ix3 b s j) * x7 (ix2 j n) := by
  rw [val_main_v29_apply]
  refine Finset.sum_congr rfl fun j _ => congrArg₂ (fun p q => val_main_v28 (F := Ideal) x0 x1 x2 x3 x4 x5 x6 p * x7 q) ?_ ?_ <;>
    (funext a; fin_cases a <;> rfl)

end Cert.ReferenceIdeal.Mla

end
-- ==== Proof.Agree.lean ====
/- The kernel's result is the reference's, at the ideal values: where a device holds its blocks of the reference's
   arguments and its partner the other blocks, and the entries that enter the scores are real. -/
module

public import proofs.«01_k».proof.Proof.Attend
public import proofs.«01_k».proof.Proof.KernelRead
public import proofs.«01_k».proof.Proof.ReferenceRead
public import Idealize.ShloMosaic.Lib.Layout

@[expose] public section

noncomputable section

namespace Cert.Agree

open Cert.Attend Cert.KernelIdeal.Mla
open Cert.ReferenceIdeal.Read
open Cert.ReferenceIdeal (S2x256x1024 S1024x128 S128x1024 S1024x1024 S1024x512 S1024x32)
open Idealize.ShloMosaic Idealize.ShloMosaic.TcCoe Idealize.ShloMosaic.ValueIdx
open scoped BigOperators

/-- The reference's arguments. -/
structure Whole where
  x : FVec Ideal S2x256x1024 .f32
  wdkv : FVec Ideal S1024x128 .f32
  wuk : FVec Ideal S128x1024 .f32
  wuv : FVec Ideal S128x1024 .f32
  wq : FVec Ideal S1024x1024 .f32
  wqr : FVec Ideal S1024x512 .f32
  wkr : FVec Ideal S1024x32 .f32
  wo : FVec Ideal S1024x1024 .f32

/-- What device `c` is given: its half of the latent axis of three weights, and the others whole. -/
structure Holds (A : Args Ideal) (c : Fin 2) (W : Whole) : Prop where
  x : A.x = W.x
  wdkv : A.wdkv = Layout.block ⟨2, ![1024, 64]⟩ ⟨2, ![1024, 128]⟩ 1 2 c W.wdkv
  wuk : A.wuk = Layout.block ⟨2, ![64, 1024]⟩ ⟨2, ![128, 1024]⟩ 0 2 c W.wuk
  wuv : A.wuv = Layout.block ⟨2, ![64, 1024]⟩ ⟨2, ![128, 1024]⟩ 0 2 c W.wuv
  wq : A.wq = W.wq
  wqr : A.wqr = W.wqr
  wkr : A.wkr = W.wkr
  wo : A.wo = W.wo

/-- The entries that enter the scores are real. -/
structure Finite (W : Whole) : Prop where
  x : ∀ i, IsReal (W.x i)
  wdkv : ∀ i, IsReal (W.wdkv i)
  wuk : ∀ i, IsReal (W.wuk i)
  wq : ∀ i, IsReal (W.wq i)
  wqr : ∀ i, IsReal (W.wqr i)
  wkr : ∀ i, IsReal (W.wkr i)

/-- Position `r` of half `c` of the latent axis. -/
def half (c : Fin 2) (r : Fin 64) : Fin (2 * 64) := ⟨c.val * 64 + r.val, by omega⟩

theorem block_cols (c : Fin 2) (v : FVec Ideal S1024x128 .f32) (k : Fin 1024) (r : Fin 64) :
    Layout.block ⟨2, ![1024, 64]⟩ ⟨2, ![1024, 128]⟩ 1 2 c v (by decide) (ix2 k r) = v (ix2 k (half c r)) := by
  rw [Layout.block_apply]
  exact congrArg v (funext fun a => Fin.ext (match a with | ⟨0, _⟩ => rfl | ⟨1, _⟩ => rfl))

theorem block_rows (c : Fin 2) (v : FVec Ideal S128x1024 .f32) (r : Fin 64) (n : Fin 1024) :
    Layout.block ⟨2, ![64, 1024]⟩ ⟨2, ![128, 1024]⟩ 0 2 c v (by decide) (ix2 r n) = v (ix2 (half c r) n) := by
  rw [Layout.block_apply]
  exact congrArg v (funext fun a => Fin.ext (match a with | ⟨0, _⟩ => rfl | ⟨1, _⟩ => rfl))

variable {A B : Args Ideal} {c e : Fin 2} {W : Whole}

def cW (W : Whole) := val_main_v0 (F := Ideal) W.x W.wdkv
def kW (W : Whole) := val_main_v1 (F := Ideal) W.x W.wdkv W.wuk
def vW (W : Whole) := val_main_v3 (F := Ideal) W.x W.wdkv W.wuv
def qW (W : Whole) := val_main_v5 (F := Ideal) W.x W.wq
def qrW (W : Whole) := val_main_v7 (F := Ideal) W.x W.wqr
def krW (W : Whole) := val_main_v9 (F := Ideal) W.x W.wkr
def scoreW (W : Whole) := val_main_v16 (F := Ideal) W.x W.wdkv W.wuk W.wq W.wqr W.wkr
def maxW (W : Whole) := val_main_v17 (F := Ideal) W.x W.wdkv W.wuk W.wq W.wqr W.wkr

theorem cW_at (b : Fin 2) (s : Fin 256) (r : Fin 128) : cW W (ix3 b s r) = ∑ k : Fin 1024, W.x (ix3 b s k) * W.wdkv (ix2 k r) :=
  Cert.ReferenceIdeal.Mla.c_at _ _ b s r
theorem kW_at (b : Fin 2) (s : Fin 256) (n : Fin 1024) : kW W (ix3 b s n) = ∑ r : Fin 128, cW W (ix3 b s r) * W.wuk (ix2 r n) :=
  Cert.ReferenceIdeal.Mla.k_at _ _ _ b s n
theorem vW_at (b : Fin 2) (s : Fin 256) (n : Fin 1024) : vW W (ix3 b s n) = ∑ r : Fin 128, cW W (ix3 b s r) * W.wuv (ix2 r n) :=
  Cert.ReferenceIdeal.Mla.v_at _ _ _ b s n
theorem qW_at (b : Fin 2) (s : Fin 256) (n : Fin 1024) : qW W (ix3 b s n) = ∑ k : Fin 1024, W.x (ix3 b s k) * W.wq (ix2 k n) :=
  Cert.ReferenceIdeal.Mla.q_at _ _ b s n
theorem qrW_at (b : Fin 2) (s : Fin 256) (n : Fin 512) : qrW W (ix3 b s n) = ∑ k : Fin 1024, W.x (ix3 b s k) * W.wqr (ix2 k n) :=
  Cert.ReferenceIdeal.Mla.qr_at _ _ b s n
theorem krW_at (b : Fin 2) (s : Fin 256) (n : Fin 32) : krW W (ix3 b s n) = ∑ k : Fin 1024, W.x (ix3 b s k) * W.wkr (ix2 k n) :=
  Cert.ReferenceIdeal.Mla.kr_at _ _ b s n
theorem scoreW_at (b : Fin 2) (h : Fin 16) (s t : Fin 256) :
    scoreW W (ix4 b h s t)
      = ((∑ d : Fin 64, qW W (ix3 b s ⟨64 * h.val + d.val, by omega⟩) * kW W (ix3 b t ⟨64 * h.val + d.val, by omega⟩))
        + ∑ d : Fin 32, qrW W (ix3 b s ⟨32 * h.val + d.val, by omega⟩) * krW W (ix3 b t d)) * κ :=
  (Cert.ReferenceIdeal.Mla.score_at _ _ _ _ _ _ b h s t).trans (congrArg (· * κ) (Cert.ReferenceIdeal.Mla.raw_at _ _ _ _ _ _ b h s t))
theorem maxW_at (b : Fin 2) (h : Fin 16) (s : Fin 256) :
    maxW W (ix3 b h s) = (Finset.univ : Finset (Fin 256)).fold max ⊥ (fun t => scoreW W (ix4 b h s t)) :=
  Cert.ReferenceIdeal.Mla.max_at _ _ _ _ _ _ b h s

/-! ## The projections agree -/

theorem cs_eq (hA : Holds A c W) (b : Fin 2) (i : Fin 256) (r : Fin 64) :
    csB A b.val b.isLt (ix3 0 i r) = cW W (ix3 b i (half c r)) := by
  rw [csB_at, cW_at, hA.x, hA.wdkv]
  exact Finset.sum_congr rfl fun k _ => by rw [block_cols]

theorem k_eq (hA : Holds A c W) (hB : Holds B e W) (he : e.val = 1 - c.val) (b : Fin 2) (i : Fin 256) (n : Fin 1024) :
    kB A B b.val b.isLt (ix3 0 i n) = kW W (ix3 b i n) := by
  unfold kB
  rw [pay24_at, kW_at, ← sum_halves (n := 64) (fun r => cW W (ix3 b i r) * W.wuk (ix2 r n)) c e he]
  refine congrArg₂ (· + ·) (Finset.sum_congr rfl fun r _ => ?_) (Finset.sum_congr rfl fun r _ => ?_)
  · rw [cs_eq hA, hA.wuk, block_rows]; rfl
  · rw [cs_eq hB, hB.wuk, block_rows]; rfl

theorem v_eq (hA : Holds A c W) (hB : Holds B e W) (he : e.val = 1 - c.val) (b : Fin 2) (i : Fin 256) (n : Fin 1024) :
    vB A B b.val b.isLt (ix3 0 i n) = vW W (ix3 b i n) := by
  unfold vB
  rw [pay24_at, vW_at, ← sum_halves (n := 64) (fun r => cW W (ix3 b i r) * W.wuv (ix2 r n)) c e he]
  refine congrArg₂ (· + ·) (Finset.sum_congr rfl fun r _ => ?_) (Finset.sum_congr rfl fun r _ => ?_)
  · rw [cs_eq hA, hA.wuv, block_rows]; rfl
  · rw [cs_eq hB, hB.wuv, block_rows]; rfl

theorem q_eq (hA : Holds A c W) (b : Fin 2) (i : Fin 256) (n : Fin 1024) :
    qB A b.val b.isLt (ix3 0 i n) = κ * qW W (ix3 b i n) := by
  rw [qB_at, qW_at, hA.x, hA.wq]

theorem qr_eq (hA : Holds A c W) (b : Fin 2) (i : Fin 256) (n : Fin 512) :
    qrB A b.val b.isLt (ix3 0 i n) = κ * qrW W (ix3 b i n) := by
  rw [qrB_at, qrW_at, hA.x, hA.wqr]

theorem kr_eq (hA : Holds A c W) (b : Fin 2) (i : Fin 256) (n : Fin 32) :
    krB A b.val b.isLt (ix3 0 i n) = krW W (ix3 b i n) := by
  rw [krB_at, krW_at, hA.x, hA.wkr]

/-! ## The scores are real and agree -/

theorem real_c (F : Finite W) (b : Fin 2) (i : Fin 256) (r : Fin 128) : IsReal (cW W (ix3 b i r)) := by
  rw [cW_at]; exact .sum fun k => (F.x _).mul (F.wdkv _)
theorem real_k (F : Finite W) (b : Fin 2) (i : Fin 256) (n : Fin 1024) : IsReal (kW W (ix3 b i n)) := by
  rw [kW_at]; exact .sum fun r => (real_c F b i r).mul (F.wuk _)
theorem real_q (F : Finite W) (b : Fin 2) (i : Fin 256) (n : Fin 1024) : IsReal (qW W (ix3 b i n)) := by
  rw [qW_at]; exact .sum fun k => (F.x _).mul (F.wq _)
theorem real_qr (F : Finite W) (b : Fin 2) (i : Fin 256) (n : Fin 512) : IsReal (qrW W (ix3 b i n)) := by
  rw [qrW_at]; exact .sum fun k => (F.x _).mul (F.wqr _)
theorem real_kr (F : Finite W) (b : Fin 2) (i : Fin 256) (n : Fin 32) : IsReal (krW W (ix3 b i n)) := by
  rw [krW_at]; exact .sum fun k => (F.x _).mul (F.wkr _)
theorem real_κ : IsReal κ := by
  refine isReal_of_ne ?_ ?_ <;> unfold κ <;> simp only [Ideal.ofBits, Ideal.ieee] <;>
    rw [if_neg (by decide), if_neg (by decide)]
  · exact EReal.coe_ne_top _
  · exact EReal.coe_ne_bot _

theorem real_score (F : Finite W) (b : Fin 2) (h : Fin 16) (s t : Fin 256) : IsReal (scoreW W (ix4 b h s t)) := by
  rw [scoreW_at]
  exact ((IsReal.sum fun d => (real_q F b s _).mul (real_k F b t _)).add (IsReal.sum fun d => (real_qr F b s _).mul (real_kr F b t _))).mul real_κ

theorem real_max (F : Finite W) (b : Fin 2) (h : Fin 16) (s : Fin 256) : IsReal (maxW W (ix3 b h s)) := by
  rw [maxW_at]
  exact isReal_fold_max (by decide) fun t => real_score F b h s t

theorem score_eq (hA : Holds A c W) (hB : Holds B e W) (he : e.val = 1 - c.val) (F : Finite W) (b : Fin 2) (h : Fin 16) (s t : Fin 256) :
    scK A B b h s t = scoreW W (ix4 b h s t) := by
  unfold scK
  simp only [q_eq hA, k_eq hA hB he, qr_eq hA, kr_eq hA]
  rw [scoreW_at]
  exact scale_in real_κ (fun d => real_q F b s _) (fun d => real_k F b t _) (fun d => real_qr F b s _) (fun d => real_kr F b t _)

/-! ## The result -/

theorem out_eq (hA : Holds A c W) (hB : Holds B e W) (he : e.val = 1 - c.val) (F : Finite W) :
    outV A B = val_main_v29 (F := Ideal) W.x W.wdkv W.wuk W.wuv W.wq W.wqr W.wkr W.wo := by
  funext i
  have key : ∀ (b : Fin 2) (s : Fin 256) (n : Fin 1024),
      outV A B (ix3 b s n) = val_main_v29 (F := Ideal) W.x W.wdkv W.wuk W.wuv W.wq W.wqr W.wkr W.wo (ix3 b s n) := by
    intro b s n
    rw [outV_at, Cert.ReferenceIdeal.Mla.out_at, hA.wo]
    refine Finset.sum_congr rfl fun j _ => congrArg (· * _) ?_
    rw [Cert.ReferenceIdeal.Mla.o_at]
    simp only [Cert.ReferenceIdeal.Mla.soft_at, Cert.ReferenceIdeal.Mla.exp_at, score_eq hA hB he F, v_eq hA hB he]
    exact softmax_shift (by decide) (fun t => scoreW W (ix4 b (headOf j) s t)) (fun t => vW W (ix3 b t j))
      (fun t => real_score F b (headOf j) s t) (maxW W (ix3 b (headOf j) s)) (real_max F b (headOf j) s)
  have hi : ix3 (i 0) (i 1) (i 2) = i := funext fun a => by fin_cases a <;> rfl
  exact hi ▸ key (i 0) (i 1) (i 2)

end Cert.Agree

end
-- ==== Proof.Inputs.lean ====
/- What the precondition says of the reference's arguments: the entries that enter the scores are real. -/
module

public import proofs.«01_k».proof.Defs
public import proofs.«01_k».proof.Proof.Agree
public import proofs.«01_k».proof.Proof.KernelIdeal.Launch

@[expose] public section

noncomputable section

namespace Cert.Inputs

open Cert.Attend Cert.Agree
open Idealize.ShloMosaic Idealize.ShloMosaic.ValueIdx

instance kernelFacts : Cert.Pre_score_inputs_finite_KernelIdeal.Facts := ⟨by decide, by decide, by decide, by decide, by decide, by decide⟩

instance referenceFacts : Cert.Pre_score_inputs_finite_ReferenceIdeal.Facts := ⟨by decide, by decide, by decide, by decide, by decide, by decide⟩

theorem inf_bits : Ideal.ofBits .f32 0x7F800000#32 = ⊤ := by simp [Ideal.ofBits, Ideal.ieee]

/-- An entry whose absolute value is below infinity is real. -/
theorem isReal_of_cmp {a : EReal} (h : Ideal.cmp .olt (max a (-a)) (Ideal.ofBits .f32 0x7F800000#32) = 1#1) : IsReal a := by
  rw [inf_bits] at h
  refine isReal_of_abs_lt ?_
  by_contra hn
  simp [Ideal.cmp, hn] at h

/-- Every entry of an array that passes the test is real. -/
theorem isReal_of_test {S : Shape} (a : FVec Ideal S .f32) (hb : (⟨0, ![]⟩ : Shape).BroadcastsInDim S (![] : Fin 0 → Fin S.rank))
    (h : cmpf .olt (Host.absf a) (broadcastInDim S ![] hb (constant (F := Ideal) ⟨0, ![]⟩ .f32 0x7F800000#32)) = fun _ => 1#1) (i : S.Idx) :
    IsReal (a i) := isReal_of_cmp (congrFun h i)

/-- The reference's arguments in a memory. -/
def whole (m' : (ℓ : Loc Cert.ReferenceIdeal.nD Cert.ReferenceIdeal.τ Cert.ReferenceIdeal.sig) → Buf (Elt Ideal) ℓ) : Whole where
  x := m' (((0 : Dev Cert.ReferenceIdeal.nD).tc : Thread Cert.ReferenceIdeal.nD Cert.ReferenceIdeal.τ).loc Cert.ReferenceIdeal.main_arg0)
  wdkv := m' (((0 : Dev Cert.ReferenceIdeal.nD).tc : Thread Cert.ReferenceIdeal.nD Cert.ReferenceIdeal.τ).loc Cert.ReferenceIdeal.main_arg1)
  wuk := m' (((0 : Dev Cert.ReferenceIdeal.nD).tc : Thread Cert.ReferenceIdeal.nD Cert.ReferenceIdeal.τ).loc Cert.ReferenceIdeal.main_arg2)
  wuv := m' (((0 : Dev Cert.ReferenceIdeal.nD).tc : Thread Cert.ReferenceIdeal.nD Cert.ReferenceIdeal.τ).loc Cert.ReferenceIdeal.main_arg3)
  wq := m' (((0 : Dev Cert.ReferenceIdeal.nD).tc : Thread Cert.ReferenceIdeal.nD Cert.ReferenceIdeal.τ).loc Cert.ReferenceIdeal.main_arg4)
  wqr := m' (((0 : Dev Cert.ReferenceIdeal.nD).tc : Thread Cert.ReferenceIdeal.nD Cert.ReferenceIdeal.τ).loc Cert.ReferenceIdeal.main_arg5)
  wkr := m' (((0 : Dev Cert.ReferenceIdeal.nD).tc : Thread Cert.ReferenceIdeal.nD Cert.ReferenceIdeal.τ).loc Cert.ReferenceIdeal.main_arg6)
  wo := m' (((0 : Dev Cert.ReferenceIdeal.nD).tc : Thread Cert.ReferenceIdeal.nD Cert.ReferenceIdeal.τ).loc Cert.ReferenceIdeal.main_arg7)

/-- Each of the 128 latent columns lies in the half of some device. -/
theorem half_onto (r : Fin 128) : ∃ (c : Fin 2) (r' : Fin 64), half c r' = r := by
  refine ⟨⟨r.val / 64, by omega⟩, ⟨r.val % 64, by omega⟩, Fin.ext ?_⟩
  show r.val / 64 * 64 + r.val % 64 = r.val
  omega

/-- The arguments a device holds pass the test. -/
structure Passes (A : Cert.KernelIdeal.Mla.Args Ideal) : Prop where
  x : ∀ i, IsReal (A.x i)
  wdkv : ∀ i, IsReal (A.wdkv i)
  wuk : ∀ i, IsReal (A.wuk i)
  wq : ∀ i, IsReal (A.wq i)
  wqr : ∀ i, IsReal (A.wqr i)
  wkr : ∀ i, IsReal (A.wkr i)

theorem passes (m : (ℓ : Loc Cert.KernelIdeal.nD Cert.KernelIdeal.τ Cert.KernelIdeal.sig) → Buf (Elt Ideal) ℓ)
    (h : Cert.Pre_KernelIdeal_score_inputs_finite_KernelIdeal m) (c : Dev Cert.KernelIdeal.nD) : Passes (Cert.KernelIdeal.Mla.arg m c) := by
  rw [Cert.KernelIdeal.Mla.arg_eq]
  obtain ⟨h0, h1, h2, h3, h4, h5⟩ := h c
  exact ⟨isReal_of_test _ _ h0, isReal_of_test _ _ h1, isReal_of_test _ _ h2, isReal_of_test _ _ h3, isReal_of_test _ _ h4, isReal_of_test _ _ h5⟩

/-- Where every device's arguments pass the test, so do the reference's: the two blocks make up a split argument. -/
theorem finite (m : (ℓ : Loc Cert.KernelIdeal.nD Cert.KernelIdeal.τ Cert.KernelIdeal.sig) → Buf (Elt Ideal) ℓ)
    (h : Cert.Pre_KernelIdeal_score_inputs_finite_KernelIdeal m) (W : Whole)
    (hH : ∀ c : Dev Cert.KernelIdeal.nD, Holds (Cert.KernelIdeal.Mla.arg m c) c W) : Finite W where
  x i := (hH 0).x ▸ (passes m h 0).x i
  wdkv i := by
    obtain ⟨k, r, rfl⟩ : ∃ (k : Fin 1024) (r : Fin 128), i = ix2 k r := ⟨i 0, i 1, by funext j; fin_cases j <;> rfl⟩
    obtain ⟨c, r', rfl⟩ := half_onto r
    rw [← block_cols c W.wdkv k r']
    exact (congrFun (hH c).wdkv (ix2 k r')) ▸ (passes m h c).wdkv (ix2 k r')
  wuk i := by
    obtain ⟨r, n, rfl⟩ : ∃ (r : Fin 128) (n : Fin 1024), i = ix2 r n := ⟨i 0, i 1, by funext j; fin_cases j <;> rfl⟩
    obtain ⟨c, r', rfl⟩ := half_onto r
    rw [← block_rows c W.wuk r' n]
    exact (congrFun (hH c).wuk (ix2 r' n)) ▸ (passes m h c).wuk (ix2 r' n)
  wq i := (hH 0).wq ▸ (passes m h 0).wq i
  wqr i := (hH 0).wqr ▸ (passes m h 0).wqr i
  wkr i := (hH 0).wkr ▸ (passes m h 0).wkr i

end Cert.Inputs

end
-- ==== Proof.lean ====
/- The certificate: the frames of the three programs, that nothing was rewritten between the first two, and that the
   kernel's result on every device is the reference's, where the inputs of the scores are finite. -/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Inputs
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.Kernel.Mla.run (F := Bits) m g)

theorem frame_kernelIdeal : Cert.quiescent_KernelIdeal := fun m g _ =>
  (θ_run Cert.KernelIdeal.defs _ _).mono (fun _ h => ⟨fun c => (h.1 c).2, h.2⟩) (Cert.KernelIdeal.Mla.run (F := Ideal) m g)

/-- The reference has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal := trivial

/-- Both devices end with the reference's result: a device's arguments are its blocks of the reference's, and its
    partner has the other blocks. -/
theorem algebraic : Cert.algebraic_KernelIdeal_ReferenceIdeal_pre_score_inputs_finite_KernelIdeal := by
  intro m g m' g' hpre hagree
  let W : Cert.Agree.Whole := Cert.Inputs.whole m'
  have hH : ∀ c, Cert.Agree.Holds (Cert.KernelIdeal.Mla.arg m c) c W := fun c => by
    obtain ⟨h0, h1, h2, h3, h4, h5, h6, h7⟩ := hagree c
    rw [Cert.KernelIdeal.Mla.arg_eq]
    exact ⟨h0, h1, h2, h3, h4, h5, h6, h7⟩
  have hF : Cert.Agree.Finite W := Cert.Inputs.finite m hpre W hH
  refine ⟨Cert.ReferenceIdeal.Value.res_main_v29 m' 0, ?_, ?_⟩
  · refine (θ_run Cert.KernelIdeal.defs _ _).mono (fun r h c => ⟨(h.1 c).1.trans ?_, (h.1 c).2⟩) (Cert.KernelIdeal.Mla.run (F := Ideal) m g)
    exact (Cert.Agree.out_eq (hH c) (hH (Cert.KernelIdeal.Mla.par c)) rfl hF).trans (Cert.ReferenceIdeal.Read.val_main_v29_eq m' 0).symm
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Inputs.kernelFacts, Cert.Inputs.referenceFacts,
    frame_kernel, frame_kernelIdeal, fun m g _ => frame_kernelIdeal m g trivial, frame_referenceIdeal, fun m g _ => frame_referenceIdeal m g trivial,
    preserves, algebraic⟩

end Cert.Proof

end
